-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x768 : Shape := ⟨2, ![4096, 768]⟩
abbrev S100000x2 : Shape := ⟨2, ![100000, 2]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x768 .f32) (main_arg1 : FVec F S100000x2 .f32) (main_arg2 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 100000#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x768 : Shape := ⟨2, ![4096, 768]⟩
abbrev S100000x2 : Shape := ⟨2, ![100000, 2]⟩
abbrev S4096 : Shape := ⟨1, ![4096]⟩
abbrev S200000 : Shape := ⟨1, ![200000]⟩
abbrev S8192 : Shape := ⟨1, ![8192]⟩
abbrev S128 : Shape := ⟨1, ![128]⟩
abbrev S_ : Shape := ⟨0, ![]⟩
abbrev S16 : Shape := ⟨1, ![16]⟩
abbrev S4096x2 : Shape := ⟨2, ![4096, 2]⟩

abbrev nBuf : Table → Nat
  | .hbm => 6
  | .local .scVector .vmem => 7
  | _ => 0

abbrev bufTy : (tb : Table) → Fin (nBuf tb) → BufTy
  | .hbm, ⟨0, _⟩ => ⟨S4096x768, .f32⟩
  | .hbm, ⟨1, _⟩ => ⟨S100000x2, .f32⟩
  | .hbm, ⟨2, _⟩ => ⟨S4096, .i32⟩
  | .hbm, ⟨3, _⟩ => ⟨S200000, .f32⟩
  | .hbm, ⟨4, _⟩ => ⟨S8192, .f32⟩
  | .hbm, ⟨5, _⟩ => ⟨S4096x2, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128, .f32⟩
  | .local .scVector .vmem, ⟨6, _⟩ => ⟨S128, .f32⟩
  | _, _ => ⟨S4096x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x768 : Shape := ⟨2, ![4096, 768]⟩
abbrev S100000x2 : Shape := ⟨2, ![100000, 2]⟩
abbrev S4096 : Shape := ⟨1, ![4096]⟩
abbrev S2 : Shape := ⟨1, ![2]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x2 : Shape := ⟨2, ![4096, 2]⟩
abbrev S1x2 : Shape := ⟨2, ![1, 2]⟩

abbrev nBuf : Space → Nat
  | .hbm => 38
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S100000x2, .f32⟩
  | .hbm, ⟨2, _⟩ => ⟨S4096, .i32⟩
  | .hbm, ⟨3, _⟩ => ⟨S2, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x2, .f32⟩
  | .hbm, ⟨23, _⟩ => ⟨S4096x2, .i1⟩
  | .hbm, ⟨24, _⟩ => ⟨S_, .f32⟩
  | .hbm, ⟨25, _⟩ => ⟨S4096x2, .f32⟩
  | .hbm, ⟨26, _⟩ => ⟨S4096x2, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x2, .f32⟩
  | .hbm, ⟨31, _⟩ => ⟨S4096x2, .f32⟩
  | .hbm, ⟨32, _⟩ => ⟨S_, .f32⟩
  | .hbm, ⟨33, _⟩ => ⟨S4096x2, .f32⟩
  | .hbm, ⟨34, _⟩ => ⟨S4096x2, .f32⟩
  | .hbm, ⟨35, _⟩ => ⟨S1x2, .f32⟩
  | .hbm, ⟨36, _⟩ => ⟨S4096x2, .f32⟩
  | .hbm, ⟨37, _⟩ => ⟨S4096x2, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst_0 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩

abbrev nD : Nat := 1
abbrev τ : Topo := Topo.v7x

variable {F : FTy → Type} [FloatOps F]
-- ==== Proof.StreamBatch.lean ====
/-
  Several INDIRECT STREAMS in flight on one DMA semaphore, as one counted batch of rows.

  A stream is a family of row transfers, each paying the same number `N` of units to the stream's semaphore. Two streams
  issued one after the other on one semaphore are therefore `n` transfers of `N` units, `n` the rows of both, and the library's
  counted batch (`Batch`) is the protocol that holds them: its invariant records every row's units and keeps its delivery
  until the wait that drains the batch. Neither wait before that one may say which rows have landed, as the rows of the two
  streams land in any order. Here are the rules by which a stream issues its rows into such a batch: one for any row family
  (`wp_streamInBatch`), and its two readings, for an indirect gather and for an indirect scatter, each with the theorem
  that puts the rows' deliveries together again.
-/
module

public import Idealize.ShloMosaic.Lib.Batch
public import Idealize.ShloMosaic.Lib.SparseCore.Scatter
public import Idealize.ShloMosaic.Lib.Tactic

@[expose] public section

noncomputable section

namespace Cert.Proof.StreamBatch

open Idealize.ShloMosaic
open Idealize.ShloMosaic.SparseCore
open Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## Blocks of a batch -/

/-- Holding nothing beside a thing is holding the thing. -/
theorem emp_sep_eq (X : sProp 𝕄) : X = iprop(emp ∗ X) :=
  BI.Entails.antisymm (show X ⊢ iprop(emp ∗ X) from emp_sep.2) (show iprop(emp ∗ X) ⊢ X from emp_sep.1)

/-- Of three things held, the first two change places and are put together. -/
theorem sep_rotate_eq (X Y Z : sProp 𝕄) : iprop(X ∗ Y ∗ Z) = iprop((Y ∗ X) ∗ Z) :=
  BI.Entails.antisymm
    (show iprop(X ∗ Y ∗ Z) ⊢ iprop((Y ∗ X) ∗ Z) by
      iintro ⟨HX, HY, HZ⟩
      isplitl [HX HY]
      · isplitl [HY] <;> iassumption
      iexact HZ)
    (show iprop((Y ∗ X) ∗ Z) ⊢ iprop(X ∗ Y ∗ Z) by
      iintro ⟨⟨HY, HX⟩, HZ⟩
      isplitl [HX]; · iexact HX
      isplitl [HY] <;> iassumption)

/-- What is held for the transfers from `j` on is what is held for the `o` transfers from `j` and for those from
    `j + o` on. -/
theorem pending_block {n : ℕ} (Φ : Fin n → sProp 𝕄) (j : ℕ) : ∀ (o : ℕ) (h : j + o ≤ n),
    bigSep (pending j) Φ
      = iprop(bigSep Finset.univ (fun t : Fin o => Φ ⟨j + t.val, Nat.lt_of_lt_of_le (Nat.add_lt_add_left t.isLt j) h⟩)
          ∗ bigSep (pending (j + o)) Φ)
  | 0, _ => by
    rw [show (Finset.univ : Finset (Fin 0)) = ∅ from rfl, BI.bigSep_empty]
    exact emp_sep_eq _
  | o + 1, h => by
    classical
    rw [pending_block Φ j o (by omega), bigSep_pending_step Φ (j + o) (by omega), Fin.univ_castSuccEmb, Finset.cons_eq_insert,
      BI.bigSep_insert (by simp), BI.bigSep_map]
    exact sep_rotate_eq _ _ _

/-- The deliveries of a batch made of two streams of `o` rows: the first's, then the second's. -/
def twoFamilies {o : ℕ} (D₁ D₂ : Fin o → sProp 𝕄) (t : Fin (o + o)) : sProp 𝕄 := Fin.addCases D₁ D₂ t

/-- Two storable families, one after the other, are storable. -/
instance twoFamilies_storable {o : ℕ} (D₁ D₂ : Fin o → sProp 𝕄) [∀ t, Storable (upEmb : UEmb _ 𝕄) (D₁ t)]
    [∀ t, Storable (upEmb : UEmb _ 𝕄) (D₂ t)] (t : Fin (o + o)) : Storable (upEmb : UEmb _ 𝕄) (twoFamilies D₁ D₂ t) := by
  unfold twoFamilies
  induction t using Fin.addCases with
  | left t => rw [Fin.addCases_left]; infer_instance
  | right t => rw [Fin.addCases_right]; infer_instance

/-- The first half of the joined family is the first family. -/
theorem twoFamilies_left {o : ℕ} (D₁ D₂ : Fin o → sProp 𝕄) (t : Fin o) (h : 0 + t.val < o + o) :
    twoFamilies D₁ D₂ ⟨0 + t.val, h⟩ = D₁ t := by
  rw [show (⟨0 + t.val, h⟩ : Fin (o + o)) = Fin.castAdd o t from Fin.ext (Nat.zero_add _)]
  exact Fin.addCases_left t

/-- The second half of the joined family is the second family. -/
theorem twoFamilies_right {o : ℕ} (D₁ D₂ : Fin o → sProp 𝕄) (t : Fin o) (h : o + t.val < o + o) :
    twoFamilies D₁ D₂ ⟨o + t.val, h⟩ = D₂ t := by
  rw [show (⟨o + t.val, h⟩ : Fin (o + o)) = Fin.natAdd o t from rfl]
  exact Fin.addCases_right t

/-- All the deliveries of the two streams are the first's and the second's. -/
theorem twoFamilies_split {o : ℕ} (D₁ D₂ : Fin o → sProp 𝕄) :
    bigSep Finset.univ (twoFamilies D₁ D₂) ⊢ iprop(bigSep Finset.univ D₁ ∗ bigSep Finset.univ D₂) := by
  have h := pending_block (twoFamilies D₁ D₂) o o le_rfl
  have h2 : bigSep (pending (o + o)) (twoFamilies D₁ D₂) = (BI.emp : sProp 𝕄) := by
    rw [show pending (n := o + o) (o + o) = ∅ from Finset.filter_eq_empty_iff.mpr fun t _ => not_le.mpr t.isLt, BI.bigSep_empty]
  have h0 := pending_block (twoFamilies D₁ D₂) 0 o (by omega)
  rw [funext fun t => twoFamilies_left D₁ D₂ t _] at h0
  rw [h2, funext fun t => twoFamilies_right D₁ D₂ t _] at h
  rw [bigSep_pending_zero, h0, show (0 : ℕ) + o = o from Nat.zero_add o, h]
  exact sep_mono_right sep_emp.1

/-! ## A stream issued into a batch -/

/-- One entry of an offset list, held at a share. -/
def listEntry {o : ℕ} (offs : Memref sig c.2.kind .vmem si .i32) (hn : si.numel = o) (qo : PosShare TreeShare)
    (fo : Buf (Elt F) (offs.view.loc c)) (t : Fin o) : sProp 𝕄 :=
  offs.view.loc c ↦[{offs.view.emb (si.rowMajor.symm (t.cast hn.symm))}]{qo} fo

/-- A share of one entry of an offset list is storable. -/
instance listEntry_storable {o : ℕ} (offs : Memref sig c.2.kind .vmem si .i32) (hn : si.numel = o) (qo : PosShare TreeShare)
    (fo : Buf (Elt F) (offs.view.loc c)) (t : Fin o) : Storable (upEmb : UEmb _ 𝕄) (listEntry c offs hn qo fo t) := by
  unfold listEntry; infer_instance

/-- An offset list held at a share is its entries held at it. -/
theorem listEntry_all {o : ℕ} (offs : Memref sig c.2.kind .vmem si .i32) (hn : si.numel = o) (qo : PosShare TreeShare)
    (fo : Buf (Elt F) (offs.view.loc c)) :
    (offs.view.loc c ↦[offs.view.set]{qo} fo : sProp 𝕄) = bigSep Finset.univ (listEntry c offs hn qo fo) :=
  pointsTo_entries c offs.view _ (si.rowMajor.symm.bijective.comp (finCongr hn.symm).bijective) qo fo

/-- A STREAM ISSUES ITS ROWS INTO A BATCH. The batch has `n` transfers of `N` units, the first `j` issued; every row of the
    stream credits `N` (`hN`). The issuer holds the list's entries, a share of each row's source, and what each row's
    write needs (`A`, `hW`); row `t` landing gives the batch's delivery `j + t` (`hD`). It continues with the batch at
    `j + o` issued. -/
theorem wp_streamInBatch [Infinite Name] [EC.LandsIn (upEmb : UEmb _ 𝕄)] {o n : ℕ} {hp : c.2.kind = .scVector}
    {hn : si.numel = o} {sem : DmaSem sig} {row : Fin o → Elt F .i32 → Option (RowDma τ sig (Elt F) c.2 sem)}
    {offs : Memref sig c.2.kind .vmem si .i32} {k : PUnit → Prog (TpuEff nD τ sig (Elt F) Λ c.2) α}
    {qo : PosShare TreeShare} {fo : Buf (Elt F) (offs.view.loc c)} {rd : Fin o → RowDma τ sig (Elt F) c.2 sem} (ι : Ix) (N : ℕ)
    (hA : (Stream.issued c offs.view hn sem row 0).RowsAgree)
    (hrd : ∀ t : Fin o, row t (offs.view.read (Elt F) fo (si.rowMajor.symm (t.cast hn.symm))) = some (rd t))
    (hN : ∀ t, (rd t).dst.view.dmaCredit = N) {D : Fin n → sProp 𝕄} {j u : ℕ} (hj : j + o ≤ n) (hu : u ≤ j * N)
    (q : Fin o → PosShare TreeShare) (fs : ∀ t, Buf (Elt F) ((rd t).src.view.loc c)) (A W : Fin o → sProp 𝕄)
    (hW : ∀ t, A t ⊢ writeUpdate c (rd t).dst.view ((rd t).via.apply ((rd t).src.view.read (Elt F) (fs t))) (W t))
    (hD : ∀ t : Fin o, iprop((W t ∗ listEntry c offs hn qo fo t) ∗ ((rd t).src.view.loc c ↦[(rd t).src.view.set]{q t} fs t))
      ⊢ D ⟨j + t.val, Nat.lt_of_lt_of_le (Nat.add_lt_add_left t.isLt j) hj⟩) :
    iprop(bigSep Finset.univ (listEntry c offs hn qo fo)
        ∗ bigSep Finset.univ (fun t => (rd t).src.view.loc c ↦[(rd t).src.view.set]{q t} fs t)
        ∗ bigSep Finset.univ A ∗ Batch EC c (.dma sem) ι N D j u)
      ⊢ iprop((Batch EC c (.dma sem) ι N D (j + o) u -∗ wp frame (wpE defs 𝒱 c bd) Set.univ (k ⟨⟩) Q)
          -∗ wp frame (wpE defs 𝒱 c bd) Set.univ (.op (.enqueueIndirectDma hp offs hn sem row) k) Q) := by
  unfold Batch
  iintro ⟨He, Hs, HA, ⟨%γ, %γ₀, %κ, #Hinv, HI, H0, Hcred⟩⟩ Hk
  ihave HI' := (Entails.of_eq (pending_block (fun t => count EC (γ t) 0) j o hj)) $$ HI
  icases HI' with ⟨Hnow, HI⟩
  have hsum : ∑ t, (rd t).dst.view.dmaCredit = o * N := sum_rowCredit_eq _ hN rfl
  iapply (wp_enqueueIndirectDma 𝒱 c bd Set.univ (qo := qo) (fo := fo) (rd := rd) ι (o * N) hA hrd hsum) $$ [He Hs HA Hnow]
  · have hrow : ∀ t : Fin o, iprop(inv κ (batchBody EC (c, SemLoc.dma sem) N D γ γ₀)
          ∗ (listEntry c offs hn qo fo t ∗ (((rd t).src.view.loc c ↦[(rd t).src.view.set]{q t} fs t)
            ∗ (A t ∗ count EC (γ ⟨j + t.val, Nat.lt_of_lt_of_le (Nat.add_lt_add_left t.isLt j) hj⟩) 0))))
        ⊢ iprop(listEntry c offs hn qo fo t ∗ (listEntry c offs hn qo fo t -∗ rowRes c (rd t))) := fun t => by
      iintro ⟨#Hinv, He, Hs, HA, Hc⟩
      isplitl [He]; · iexact He
      iintro He
      unfold rowRes
      iexists q t, fs t, iprop(W t ∗ listEntry c offs hn qo fo t)
      isplitl [Hs]; · iexact Hs
      isplitl [HA He]
      · iapply writeUpdate_frame
        isplitl [HA]; · iapply (hW t) $$ HA
        iexact He
      · rw [show (rd t).dst.view.amount (.dma sem) = N from hN t]
        iapply (batch_creditUpdate EC _ (hD t))
        isplitr; · iexact Hinv
        iexact Hc
    unfold Stream.res
    ihave H1 := bigSep_sep_in _ _ _ $$ [HA Hnow]; · isplitl [HA] <;> iassumption
    ihave H2 := bigSep_sep_in _ _ _ $$ [Hs H1]; · isplitl [Hs] <;> iassumption
    ihave H3 := bigSep_sep_in _ _ _ $$ [He H2]; · isplitl [He] <;> iassumption
    iapply (bigSep_mono_pers Finset.univ _ _ _ fun t _ => hrow t)
    isplitr; · iexact Hinv
    iexact H3
  iintro Hcred'
  iapply Hk
  iexists γ, γ₀, κ
  isplitr; · iexact Hinv
  isplitl [HI]; · iexact HI
  isplitl [H0]; · iexact H0
  rw [show (j + o) * N - u = (j * N - u) + o * N by rw [Nat.add_mul]; omega, ← tallyAt_add]
  icombine Hcred Hcred' as H
  iexact H

/-! ## The indirect gather -/

/-- The rows of a non-empty destination are not none. -/
theorem rows_pos {a' : Fin s.rank} (hs : 0 < s.numel) : 0 < s.size a' := Shape.size_pos_of_numel_pos hs _

/-- What row `t` of a gather delivers: the destination's row written with the source's row `r t`, the list's entry back
    and the row's piece of the source's share back. -/
def gatherRowOut (src : Memref sig c.2.kind sp s₀ e) (dst : Memref sig c.2.kind .vmem s e) (hg : s₀.Gathers a s)
    (offs : Memref sig c.2.kind .vmem si .i32) (hn : si.numel = s.size hg.axis') (hs : 0 < s.numel) (q qo : PosShare TreeShare)
    (fs : Buf (Elt F) (src.view.loc c)) (fd : Buf (Elt F) (dst.view.loc c)) (fo : Buf (Elt F) (offs.view.loc c))
    (r : Fin (s.size hg.axis') → Fin (s₀.size hg.axis)) (t : Fin (s.size hg.axis')) : sProp 𝕄 :=
  iprop(((dst.view.loc c ↦[(dst.view.slice (s.rowRect hg.axis' t)).set]{fullShare}
            ((dst.view.slice (s.rowRect hg.axis' t)).write (Elt F) fd
              (fun i => src.view.read (Elt F) fs (hg.rowIdx (r t) i)) Finset.univ))
        ∗ listEntry c offs hn qo fo t) ∗ (src.view.loc c ↦[src.view.set]{pieceOf q _ (rows_pos hs) t} fs))

/-- What a gathered row delivers is storable. -/
instance gatherRowOut_storable (src : Memref sig c.2.kind sp s₀ e) (dst : Memref sig c.2.kind .vmem s e) (hg : s₀.Gathers a s)
    (offs : Memref sig c.2.kind .vmem si .i32) (hn : si.numel = s.size hg.axis') (hs : 0 < s.numel) (q qo : PosShare TreeShare)
    (fs : Buf (Elt F) (src.view.loc c)) (fd : Buf (Elt F) (dst.view.loc c)) (fo : Buf (Elt F) (offs.view.loc c))
    (r : Fin (s.size hg.axis') → Fin (s₀.size hg.axis)) (t : Fin (s.size hg.axis')) :
    Storable (upEmb : UEmb _ 𝕄) (gatherRowOut c src dst hg offs hn hs q qo fs fd fo r t) := by
  unfold gatherRowOut; infer_instance

/-- The rows' deliveries together: the destination written with the gather's payload, the source's share and the list's. -/
theorem gatherRowOut_all (src : Memref sig c.2.kind sp s₀ e) (dst : Memref sig c.2.kind .vmem s e) (hg : s₀.Gathers a s)
    (offs : Memref sig c.2.kind .vmem si .i32) (hn : si.numel = s.size hg.axis') (hs : 0 < s.numel) (q qo : PosShare TreeShare)
    (fs : Buf (Elt F) (src.view.loc c)) (fd : Buf (Elt F) (dst.view.loc c)) (fo : Buf (Elt F) (offs.view.loc c))
    (r : Fin (s.size hg.axis') → Fin (s₀.size hg.axis)) :
    bigSep Finset.univ (gatherRowOut c src dst hg offs hn hs q qo fs fd fo r)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hjoin := pointsTo_rows_write (Ix := Ix) (Name := Name) (U := U) (Lvl := Lvl) c dst.view hg.axis' fd
    (fun t i => src.view.read (Elt F) fs (hg.rowIdx (r t) i)) (gatherPayload hg (src.view.read (Elt F) fs) r)
    fun t i => by unfold gatherPayload; rw [Shape.Gathers.idx_rowRect_emb]
  unfold gatherRowOut
  iintro H
  ihave H := bigSep_sep_out _ _ _ $$ H
  icases H with ⟨H, Hsrc⟩
  ihave H := bigSep_sep_out _ _ _ $$ H
  icases H with ⟨Hdst, Hoffs⟩
  isplitl [Hdst]
  · iapply hjoin; iexact Hdst
  isplitl [Hsrc]
  · iapply (Entails.of_eq (pointsTo_piecesOf src.view.set fs (rows_pos hs) q).symm) $$ Hsrc
  · iapply (Entails.of_eq (listEntry_all c offs hn qo fo).symm) $$ Hoffs

/-- `enqueueIndirectGather` INTO A BATCH: from a share of the source, the destination outright, a share of the list (its words
    in range) and the batch with `j` rows issued, the tile goes on with the batch `s.size hg.axis'` rows further, whose
    deliveries there are the gather's rows'. -/
theorem wp_gatherInBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hs : 0 < s.numel) (hN : ∀ t, (dst.slice (s.rowRect hg.axis' t) (s.stride_rowRect hg.axis' t)).view.dmaCredit = N)
    (hin : ∀ x, (offs.view.read (Elt F) fo x).toNat < s₀.size hg.axis)
    {D : Fin n → sProp 𝕄} {j u : ℕ} (hj : j + s.size hg.axis' ≤ n) (hu : u ≤ j * N)
    (hD : ∀ t : Fin (s.size hg.axis'), D ⟨j + t.val, Nat.lt_of_lt_of_le (Nat.add_lt_add_left t.isLt j) hj⟩
      = gatherRowOut c src dst hg offs hn hs q qo fs fd fo (rows (offs.view.read (Elt F) fo) hn hin) t) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let r : Fin (s.size hg.axis') → Fin (s₀.size hg.axis) := rows (offs.view.read (Elt F) fo) hn hin
  iintro ⟨Hs, Hd, Ho, HB⟩
  ihave Hs := (Entails.of_eq (pointsTo_piecesOf src.view.set fs (rows_pos (a' := hg.axis') hs) q)) $$ Hs
  ihave Hd := (Entails.of_eq (pointsTo_rows c dst.view hg.axis' fullShare fd)) $$ Hd
  ihave Ho := (Entails.of_eq (listEntry_all c offs hn qo fo)) $$ Ho
  iapply (wp_streamInBatch EC 𝒱 c bd (rd := fun t => gatherRow c src dst hg sem hsrc he hsp hr t (r t)) ι N
    (by
      intro t x x' ρ ρ' h h'
      obtain ⟨_, _, rfl⟩ := Option.map_eq_some_iff.mp h
      obtain ⟨_, _, rfl⟩ := Option.map_eq_some_iff.mp h'
      rfl)
    (fun t => by rw [rowOf_of_lt (hin _)]; rfl) hN hj hu (fun t => pieceOf q _ (rows_pos hs) t) (fun _ => fs)
    (fun t => dst.view.loc c ↦[(dst.view.slice (s.rowRect hg.axis' t)).set]{fullShare} fd)
    (fun t => dst.view.loc c ↦[(dst.view.slice (s.rowRect hg.axis' t)).set]{fullShare}
            ((dst.view.slice (s.rowRect hg.axis' t)).write (Elt F) fd
              (fun i => src.view.read (Elt F) fs (hg.rowIdx (r t) i)) Finset.univ))
    (fun t => pointsTo_writeUpdate c (v := dst.view.slice (s.rowRect hg.axis' t)) subset_rfl)
    (fun t => Entails.of_eq (hD t).symm))
  isplitl [Ho]; · iexact Ho
  isplitl [Hs]; · iexact Hs
  isplitl [Hd]; · iexact Hd
  iexact HB

/-! ## The indirect scatter -/

/-- What row `t` of a scatter delivers: the target's row `r t` written with the source's row `t`, the list's entry back and
    the source's row back. -/
def scatterRowOut (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (t : Fin (s.size hg.axis')) : sProp 𝕄 :=
  iprop(((dst.view.loc c ↦[(dst.view.slice (s₀.rowRect hg.axis (r t))).set]{fullShare}
            ((dst.view.slice (s₀.rowRect hg.axis (r t))).write (Elt F) fd (scatterRowPayload c src hg fs t) Finset.univ))
        ∗ listEntry c offs hn qo fo t) ∗ (src.view.loc c ↦[(src.view.slice (s.rowRect hg.axis' t)).set]{q} fs))

/-- What a scattered row delivers is storable. -/
instance scatterRowOut_storable (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (t : Fin (s.size hg.axis')) :
    Storable (upEmb : UEmb _ 𝕄) (scatterRowOut c src dst hg offs hn q qo fs fd fo r t) := by
  unfold scatterRowOut; infer_instance

/-- The named rows held outright are the rows of the list, one for each entry (no row is named twice). -/
theorem namedRows_split (dst : Memref sig c.2.kind sp s₀ e) (hg : s₀.Gathers a s) (fd : Buf (Elt F) (dst.view.loc c))
    (r : Fin (s.size hg.axis') → Fin (s₀.size hg.axis)) (hinj : Function.Injective r) :
    (dst.view.loc c ↦[namedRows c dst.view hg.axis r]{fullShare} fd : sProp 𝕄)
      = bigSep Finset.univ fun t => dst.view.loc c ↦[(dst.view.slice (s₀.rowRect hg.axis (r t))).set]{fullShare} fd :=
  pointsTo_biUnion _ _ fun _ _ _ _ h => dst.view.disjoint_rows hg.axis fun h' => h (hinj h')

/-- The rows' deliveries together: the named rows at the scattered contents, the source's share and the list's. -/
theorem scatterRowOut_all (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (hinj : Function.Injective r) :
    bigSep Finset.univ (scatterRowOut c src dst hg offs hn q qo fs fd fo r)
      ⊢ (iprop((dst.view.loc c ↦[namedRows c dst.view hg.axis r]{fullShare} (scatterBuf c dst.view hg.axis r (scatterRowPayload c src hg fs) fd))
          ∗ (src.view.loc c ↦[src.view.set]{q} fs) ∗ (offs.view.loc c ↦[offs.view.set]{qo} fo)) : sProp 𝕄) := by
  unfold scatterRowOut
  iintro H
  ihave H := bigSep_sep_out _ _ _ $$ H
  icases H with ⟨H, Hsrc⟩
  ihave H := bigSep_sep_out _ _ _ $$ H
  icases H with ⟨Hdst, Hoffs⟩
  have hrow : ∀ t, (dst.view.loc c ↦[(dst.view.slice (s₀.rowRect hg.axis (r t))).set]{fullShare}
            ((dst.view.slice (s₀.rowRect hg.axis (r t))).write (Elt F) fd (scatterRowPayload c src hg fs t) Finset.univ) : sProp 𝕄)
      = dst.view.loc c ↦[(dst.view.slice (s₀.rowRect hg.axis (r t))).set]{fullShare} (scatterBuf c dst.view hg.axis r (scatterRowPayload c src hg fs) fd) :=
    fun t => pointsTo_congr fun i hi => (scatterBuf_of_mem c dst.view hg.axis r hinj _ fd hi).symm
  isplitl [Hdst]
  · iapply (Entails.of_eq ((congrArg (bigSep Finset.univ) (funext hrow)).trans (namedRows_split c dst hg _ r hinj).symm)) $$ Hdst
  isplitl [Hsrc]
  · iapply (Entails.of_eq (pointsTo_rows c src.view hg.axis' q fs).symm) $$ Hsrc
  · iapply (Entails.of_eq (listEntry_all c offs hn qo fo).symm) $$ Hoffs

/-- `enqueueIndirectScatter` INTO A BATCH: from a share of the source, the target's named rows outright, a share of the list
    (its words in range, no row named twice) and the batch with `j` rows issued, the tile goes on with the batch
    `s.size hg.axis'` rows further, whose deliveries there are the scatter's rows'. -/
theorem wp_scatterInBatch [Infinite Name] [EC.LandsIn (upEmb : UEmb _ 𝕄)] {n : ℕ}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hin : ∀ x, (offs.view.read (Elt F) fo x).toNat < s₀.size hg.axis)
    (hN : ∀ i, (dst.slice (s₀.rowRect hg.axis i) (s₀.stride_rowRect hg.axis i)).view.dmaCredit = N)
    (hinj : Function.Injective (rows (offs.view.read (Elt F) fo) hn hin))
    {D : Fin n → sProp 𝕄} {j u : ℕ} (hj : j + s.size hg.axis' ≤ n) (hu : u ≤ j * N)
    (hD : ∀ t : Fin (s.size hg.axis'), D ⟨j + t.val, Nat.lt_of_lt_of_le (Nat.add_lt_add_left t.isLt j) hj⟩
      = scatterRowOut c src dst hg offs hn q qo fs fd fo (rows (offs.view.read (Elt F) fo) hn hin) t) :
    iprop((src.view.loc c ↦[src.view.set]{q} fs)
        ∗ (dst.view.loc c ↦[namedRows c dst.view hg.axis (rows (offs.view.read (Elt F) fo) hn hin)]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  rw [enqueueIndirectScatter_bind]
  let r : Fin (s.size hg.axis') → Fin (s₀.size hg.axis) := rows (offs.view.read (Elt F) fo) hn hin
  let rd : Fin (s.size hg.axis') → RowDma τ sig (Elt F) c.2 sem := fun t => scatterRow c src dst hg sem he hsp hr t (r t)
  have hset : ∀ t, (src.view.slice (s.rowRect hg.axis' t)).set = (rd t).src.view.set :=
    fun t => (View.set_cast (v := src.view.slice (s.rowRect hg.axis' t)) _ _).symm
  have hpt : ∀ t, (src.view.loc c ↦[(src.view.slice (s.rowRect hg.axis' t)).set]{q} fs : sProp 𝕄)
      = ((rd t).src.view.loc c ↦[(rd t).src.view.set]{q} fs) :=
    fun t => congrArg (fun I => (src.view.loc c ↦[I]{q} fs : sProp 𝕄)) (hset t)
  iintro ⟨Hs, Hd, Ho, HB⟩
  ihave Hs := (Entails.of_eq (pointsTo_rows c src.view hg.axis' q fs)) $$ Hs
  ihave Hd := (Entails.of_eq (namedRows_split c dst hg fd r hinj)) $$ Hd
  ihave Ho := (Entails.of_eq (listEntry_all c offs hn qo fo)) $$ Ho
  iapply (wp_streamInBatch EC 𝒱 c bd (rd := rd) ι N
    (by
      intro t x x' ρ ρ' h h'
      obtain ⟨_, _, rfl⟩ := Option.map_eq_some_iff.mp h
      obtain ⟨_, _, rfl⟩ := Option.map_eq_some_iff.mp h'
      rfl)
    (fun t => by rw [rowOf_of_lt (hin _)]; rfl) (fun t => hN (r t)) hj hu (fun _ => q) (fun _ => fs)
    (fun t => dst.view.loc c ↦[(dst.view.slice (s₀.rowRect hg.axis (r t))).set]{fullShare} fd)
    (fun t => dst.view.loc c ↦[(dst.view.slice (s₀.rowRect hg.axis (r t))).set]{fullShare}
            ((dst.view.slice (s₀.rowRect hg.axis (r t))).write (Elt F) fd (scatterRowPayload c src hg fs t) Finset.univ))
    (fun t => pointsTo_writeUpdate c (v := dst.view.slice (s₀.rowRect hg.axis (r t))) subset_rfl)
    (fun t => Entails.of_eq (by rw [hD t]; unfold scatterRowOut; rw [hpt t])))
  isplitl [Ho]; · iexact Ho
  isplitl [Hs]; · iapply (Entails.of_eq (congrArg (bigSep Finset.univ) (funext hpt))) $$ Hs
  isplitl [Hd]; · iexact Hd
  iexact HB

end Cert.Proof.StreamBatch
-- ==== Proof.Setup.lean ====
/-
  The set-up of the gather-and-scale kernel's launch: the program as the SparseCore launch theorem sees it, the ghost state,
  the buffers and semaphores of one tile, the pieces of the arrays that the tiles own, and the array of results.

  The call has 32 workers, worker `2·s + c` on vector subcore `s` of SparseCore `c`. Worker `w` reads entries `[128·w, 128·w + 128)`
  of the index list and writes cells `[256·w, 256·w + 256)` of the result; all of them read the whole coordinate table.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton
public import proofs.«01_k».proof.Proof.StreamBatch

@[expose] public section

noncomputable section

namespace Cert.Proof.Gps

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are distinct and unscoped, and no buffer of a SparseCore is shared between its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev cLoc (d : Dev nD) : Loc nD τ sig := (SparseCore.T d).loc main_arg1
abbrev iLoc (d : Dev nD) : Loc nD τ sig := (SparseCore.T d).loc main_arg2
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "tV" => (Memref.whole Cert.KernelIdeal.main_v0_scv : Memref Cert.KernelIdeal.sig Kind.scVector Space.hbm Cert.KernelIdeal.S200000 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v1_scv : Memref Cert.KernelIdeal.sig Kind.scVector Space.hbm Cert.KernelIdeal.S8192 EltTy.f32)

/-! ## Pieces: 32 workers -/

/-- The index list divides into 32 equal parts. -/
theorem idiv : 32 ∣ S4096.size 0 := ⟨128, rfl⟩
/-- The flat result divides into 32 equal parts. -/
theorem odiv : 32 ∣ S8192.size 0 := ⟨256, rfl⟩
/-- Worker `w`'s entries of the index list. -/
abbrev iPart (w : Fin 32) : Rect S4096 := Rect.part (s := S4096) (a₀ := 0) idiv w
/-- Worker `w`'s cells of the result. -/
abbrev oPart (w : Fin 32) : Rect S8192 := Rect.part (s := S8192) (a₀ := 0) odiv w
abbrev iSet (w : Fin 32) : Finset S4096.Idx := (iPart w).set
abbrev oSet (w : Fin 32) : Finset S8192.Idx := (oPart w).set

/-- A cell is worker `w`'s when it lies in `[256·w, 256·w + 256)`. -/
theorem mem_oSet (w : Fin 32) (x : S8192.Idx) : x ∈ oSet w ↔ 256 * w.val ≤ (x 0).val ∧ (x 0).val < 256 * w.val + 256 := by
  unfold oSet oPart Rect.part Rect.block
  rw [Rect.mem_set_unit]
  constructor
  · intro h
    have h0 := h 0
    simp [Shape.partIx, Shape.partSize] at h0
    omega
  · intro h a
    match a with
    | 0 => simp [Shape.partIx, Shape.partSize]; omega

/-- The parts of the index list do not overlap. -/
theorem iSets_disjoint : ∀ i ∈ (Finset.univ : Finset (Fin 32)), ∀ j ∈ (Finset.univ : Finset (Fin 32)), i ≠ j → Disjoint (iSet i) (iSet j) :=
  fun _ _ _ _ h => Rect.part_disjoint idiv h
/-- The parts of the result do not overlap. -/
theorem oSets_disjoint : ∀ i ∈ (Finset.univ : Finset (Fin 32)), ∀ j ∈ (Finset.univ : Finset (Fin 32)), i ≠ j → Disjoint (oSet i) (oSet j) :=
  fun _ _ _ _ h => Rect.part_disjoint odiv h
/-- The parts of the index list make up the whole. -/
theorem iSets_cover : (Finset.univ : Finset (Fin 32)).biUnion iSet = Finset.univ := Rect.biUnion_part idiv
/-- The parts of the result make up the whole. -/
theorem oSets_cover : (Finset.univ : Finset (Fin 32)).biUnion oSet = Finset.univ := Rect.biUnion_part odiv

/-! ## The result -/

section Result

variable [FloatOps F]

/-- A coordinate clamped to `[-1, 1]`. -/
def clampUnit (v : F .f32) : F .f32 :=
  FloatOps.minimumf (FloatOps.maximumf v (Scalar.ofBits .f32 0xBF800000#32)) (Scalar.ofBits .f32 0x3F800000#32)

/-- The table's word `k`; words past the table's end are never asked for. -/
def tableAt (t : S200000.Idx → F .f32) (k : ℕ) : F .f32 := t fun | 0 => ⟨k % 200000, Nat.mod_lt _ (by decide)⟩ | ⟨_ + 1, h⟩ => absurd h (by simp)

/-- The list's entry `k`; entries past its end are never asked for. -/
def entryAt (n : S4096.Idx → BitVec 32) (k : ℕ) : ℕ := (n fun | 0 => ⟨k % 4096, Nat.mod_lt _ (by decide)⟩ | ⟨_ + 1, h⟩ => absurd h (by simp)).toNat

/-- Result cell `2·i` is 90 times the clamped first coordinate of row `n[i]`, cell `2·i + 1` 180 times its clamped second:
    row `r` of the coordinates is words `2·r` and `2·r + 1` of the flat table. -/
def scaledRows (t : S200000.Idx → F .f32) (n : S4096.Idx → BitVec 32) : S8192.Idx → F .f32 := fun x =>
  if (x 0).val % 2 = 0 then FloatOps.mulf (clampUnit (tableAt t (2 * entryAt n ((x 0).val / 2)))) (Scalar.ofBits .f32 0x42B40000#32)
  else FloatOps.mulf (clampUnit (tableAt t (2 * entryAt n ((x 0).val / 2) + 1))) (Scalar.ofBits .f32 0x43340000#32)

end Result

/-! ## One tile: its coordinates, worker number, buffers and semaphores -/

section Tile

variable (d : Dev nD) (L : grid0.Coords)

abbrev cV (L : grid0.Coords) : Fin τ.nSC := (L 0).castLE hcore0
abbrev jV (L : grid0.Coords) : Fin τ.nSub := (L 1).castLE hsub0

/-- There are two SparseCores. -/
theorem core_lt (L : grid0.Coords) : (L 0).val < 2 := (L 0).isLt
/-- Each SparseCore has sixteen tiles. -/
theorem sub_lt (L : grid0.Coords) : (L 1).val < 16 := (L 1).isLt

/-- The worker number of the tile on subcore `L 1` of SparseCore `L 0`. -/
def wk (L : grid0.Coords) : Fin 32 := ⟨2 * (L 1).val + (L 0).val, by have := core_lt L; have := sub_lt L; omega⟩

/-- The tile's slice of the index list, as the kernel addresses it. -/
abbrev iK (L : grid0.Coords) : Memref sig .scVector .hbm S128 .i32 := (iV).slice (Rect.unit (s := S4096) (k0_off1 L) S128.size (k0_off1_inb L)) (fun _ => rfl)
/-- The whole table and the whole result, as the kernel's streams address them. -/
abbrev tK : Memref sig .scVector .hbm S200000 .f32 := (tV).slice (Rect.unit (s := S200000) ![0] S200000.size inb_S200000_S200000_0) (fun _ => rfl)
abbrev oK : Memref sig .scVector .hbm S8192 .f32 := (oV).slice (Rect.unit (s := S8192) ![0] S8192.size inb_S8192_S8192_0) (fun _ => rfl)

/-- The rectangle of the index list that a tile copies is its worker's part. -/
theorem rect_iK : Rect.unit (s := S4096) (k0_off1 L) S128.size (k0_off1_inb L) = iPart (wk L) := by
  unfold iPart Rect.part Rect.block
  congr 1 <;> funext a
  · rw [k0_off1_eq]
    match a with
    | 0 => simp [Shape.partIx, Shape.partSize, wk]; omega
  · match a with
    | 0 => simp [Shape.partSize]

/-- The indices of the slice that a tile copies are those of its worker's part. -/
theorem set_iK : (iK L).view.set = iSet (wk L) := by
  show ((View.whole (main_arg2_scv : Ref sig .scVector)).slice (Rect.unit (s := S4096) (k0_off1 L) S128.size (k0_off1_inb L))).set = _
  rw [View.set_slice, rect_iK]; exact Finset.map_refl

/-- The seven scratch buffers of a tile. -/
abbrev scratch : Finset (Ref sig .scVector) :=
  {cc0_scratch0, cc0_scratch1, cc0_scratch2, cc0_scratch3, cc0_scratch4, cc0_scratch5, cc0_scratch6}

abbrev cellS (d : Dev nD) (L : grid0.Coords) : GSem nD τ sig := (V d (cV L) (jV L), .dma cc0_scoped0.sem)
abbrev cellG (d : Dev nD) (L : grid0.Coords) : GSem nD τ sig := (V d (cV L) (jV L), .dma cc0_scratch7.sem)
abbrev cellW (d : Dev nD) (L : grid0.Coords) : GSem nD τ sig := (V d (cV L) (jV L), .dma cc0_scratch8.sem)

/-- The tile's own semaphores are its three DMA semaphores and the rest. -/
theorem ownSems0_V :
    (ownSems0 (V d (cV L) (jV L)) : sProp 𝕄)
      = iprop(semVal (cellS d L) 0 ∗ semVal (cellG d L) 0 ∗ semVal (cellW d L) 0
          ∗ bigSep ((((ownCells (V d (cV L) (jV L))).erase (cellS d L)).erase (cellG d L)).erase (cellW d L)) fun g => semVal g 0) := by
  unfold SparseCore.Cfg.ownSems0
  rw [SparseCore.bigSep_erase' ((mem_ownCells (g := cellS d L)).mpr ⟨rfl, by
      show (SemLoc.dma cc0_scoped0.sem : SemLoc sig).isScoped .scVector = true; decide⟩),
    SparseCore.bigSep_erase' (Finset.mem_erase.mpr ⟨by simp [cellS, cellG]; decide, (mem_ownCells (g := cellG d L)).mpr ⟨rfl, by
      show (SemLoc.dma cc0_scratch7.sem : SemLoc sig).isScoped .scVector = true; decide⟩⟩),
    SparseCore.bigSep_erase' (Finset.mem_erase.mpr ⟨by simp [cellG, cellW]; decide, Finset.mem_erase.mpr ⟨by simp [cellS, cellW]; decide,
      (mem_ownCells (g := cellW d L)).mpr ⟨rfl, by show (SemLoc.dma cc0_scratch8.sem : SemLoc sig).isScoped .scVector = true; decide⟩⟩⟩)]

/-- The buffers of a tile other than its seven scratch buffers, each at some contents. -/
abbrev otherBufs : sProp 𝕄 :=
  bigSep (ownRefs (τ := τ) (.scVector (cV L) (jV L)) \ scratch.image (Proc.scVector (cV L) (jV L)).devRef)
    fun b => iprop(∃ f, ((d, b) : Loc nD τ sig) ↦{fullShare} f)

/-- A family over the seven scratch buffers, written out. -/
theorem bigSep_scratch (Φ : Ref sig .scVector → sProp 𝕄) :
    bigSep scratch Φ = iprop(Φ cc0_scratch0 ∗ Φ cc0_scratch1 ∗ Φ cc0_scratch2 ∗ Φ cc0_scratch3 ∗ Φ cc0_scratch4 ∗ Φ cc0_scratch5 ∗ Φ cc0_scratch6) := by
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tile's own buffers are its seven scratch buffers, each at some contents, and the rest. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f)) ∗ otherBufs d L) := by
  unfold SparseCore.Cfg.ownBufs
  have hsub : scratch.image (Proc.scVector (cV L) (jV L)).devRef ⊆ ownRefs (τ := τ) (sig := sig) (.scVector (cV L) (jV L)) := by
    intro b hb
    obtain ⟨r, hr, rfl⟩ := Finset.mem_image.mp hb
    refine SparseCore.Cfg.mem_ownRefs_of_owner ?_
    simp only [scratch, Finset.mem_insert, Finset.mem_singleton] at hr
    rcases hr with rfl | rfl | rfl | rfl | rfl | rfl | rfl <;> rfl
  rw [SparseCore.bigSep_sdiff_split' hsub, SparseCore.bigSep_image_of_injOn ((Proc.devRef_injective _).injOn)]
  exact congrArg (fun A => iprop(A ∗ otherBufs d L))
    (bigSep_scratch fun r => iprop(∃ f, (V d (cV L) (jV L)).loc r ↦{fullShare} f))

end Tile

end Cert.Proof.Gps

end
-- ==== Proof.Values.lean ====
/-
  The values one tile works with: the words of its four offset lists after the eight sixteen-lane stores that fill each, what
  its two gathers bring in, and what its two scatters leave in the tile's cells of the result.
-/
module

public import proofs.«01_k».proof.Proof.Setup

@[expose] public section

noncomputable section

namespace Cert.Proof.Gps

open Cert.KernelIdeal Cert.KernelIdeal.Gen

open Idealize.ShloMosaic
open Idealize.ShloMosaic.SparseCore (S V T rows gatherPayload namedRows scatterBuf scatterRowPayload)
open Idealize.SL Idealize.SL.Sem

variable {F : FTy → Type}

/-! ## Filling a whole buffer by stores -/

/-- A buffer filled by stores that cover it and all store values of one function `G` holds `G`, whatever it held before. -/
theorem writes_whole {sg : RefSig} {κ : Kind} {Val : EltTy → Type} (r : Ref sg κ) (f : r.ty.Contents Val)
    (P : List (View.Piece Val r.ty.shape r.ty.elt)) (G : r.ty.Contents Val)
    (hG : ∀ p ∈ P, ∀ x : p.1.shape.Idx, p.2 x = G (p.1.emb x)) (hcov : ∀ y, ∃ p ∈ P, y ∈ p.1.set) :
    (Memref.whole r).view.writes Val f P = G := by
  funext y
  exact View.read_writes_apply_of_pieces (Memref.whole r).view f G P hG y (hcov y)

/-! ## The words of the offset lists -/

section Lists

variable (d : Dev nD) (L : grid0.Coords) (n : Buf (Elt F) (iLoc d)) (t : Buf (Elt F) (tLoc d))

/-- The table's word at an index is the word of the index's number. -/
theorem tableAt_eq (t : S200000.Idx → F .f32) (x : S200000.Idx) (k : ℕ) (h : (x 0).val = k) : t x = tableAt t k := by
  unfold tableAt
  congr 1
  funext a
  match a with
  | 0 => exact Fin.ext (by show (x 0).val = k % 200000; rw [← h]; exact (Nat.mod_eq_of_lt (x 0).isLt).symm)

/-- The list's entry at an index is the entry of the index's number. -/
theorem entryAt_eq (n : S4096.Idx → BitVec 32) (x : S4096.Idx) (k : ℕ) (h : (x 0).val = k) : (n x).toNat = entryAt n k := by
  unfold entryAt
  congr 2
  funext a
  match a with
  | 0 => exact Fin.ext (by show (x 0).val = k % 4096; rw [← h]; exact (Nat.mod_eq_of_lt (x 0).isLt).symm)

/-- Every entry asked for by number is an entry. -/
theorem entryAt_lt (n : S4096.Idx → BitVec 32) (hn : ∀ j, (n j).toNat < 100000) (k : ℕ) : entryAt n k < 100000 := hn _

/-- The tile's 128 entries of the index list. -/
def entries : S128.Idx → BitVec 32 := (iK L).view.read (Elt F) n

/-- A tile's entry at a lane is the list's entry of the lane's number, counted from the tile's first. -/
theorem entries_toNat (y : S128.Idx) : (entries d L n y).toNat = entryAt n (128 * (wk L).val + (y 0).val) := by
  refine (congrArg BitVec.toNat ((View.read_apply _ _).trans (cast_eq _ _))).trans (entryAt_eq n _ _ ?_)
  show (k0_off1 L) 0 + 1 * (y 0).val = _
  rw [k0_off1_eq]
  show 256 * (L 1).val + 128 * (L 0).val + 1 * (y 0).val = 128 * (2 * (L 1).val + (L 0).val) + (y 0).val
  omega

/-- The table words of the entries' first coordinates, -/
def firstWords : S128.Idx → BitVec 32 := fun y => IntOp.muli (entries d L n y) 2#32
/-- and of their second. -/
def secondWords : S128.Idx → BitVec 32 := fun y => IntOp.addi (IntOp.muli (entries d L n y) 2#32) 1#32
/-- The result cells of the first coordinates, -/
def firstCells : S128.Idx → BitVec 32 := fun y => BitVec.ofNat 32 (256 * (wk L).val + 2 * (y 0).val)
/-- and of the second. -/
def secondCells : S128.Idx → BitVec 32 := fun y => BitVec.ofNat 32 (256 * (wk L).val + 2 * (y 0).val + 1)

/-- The word of an entry's first coordinate is twice the entry; nothing overflows. -/
theorem firstWords_toNat (hn : ∀ j, (n j).toNat < 100000) (y : S128.Idx) :
    (firstWords d L n y).toNat = 2 * entryAt n (128 * (wk L).val + (y 0).val) := by
  have h := entryAt_lt n hn (128 * (wk L).val + (y 0).val)
  unfold firstWords IntOp.muli
  rw [BitVec.toNat_mul, entries_toNat, BitVec.toNat_ofNat]
  omega

/-- The word of an entry's second coordinate is one more than twice the entry. -/
theorem secondWords_toNat (hn : ∀ j, (n j).toNat < 100000) (y : S128.Idx) :
    (secondWords d L n y).toNat = 2 * entryAt n (128 * (wk L).val + (y 0).val) + 1 := by
  have h := entryAt_lt n hn (128 * (wk L).val + (y 0).val)
  unfold secondWords IntOp.addi IntOp.muli
  rw [BitVec.toNat_add, BitVec.toNat_mul, entries_toNat, BitVec.toNat_ofNat, BitVec.toNat_ofNat]
  omega

/-- A lane's number is below 128. -/
theorem lane_lt (y : S128.Idx) : (y 0).val < 128 := (y 0).isLt

/-- The result cell of a lane's first coordinate. -/
theorem firstCells_toNat (y : S128.Idx) : (firstCells L y).toNat = 256 * (wk L).val + 2 * (y 0).val := by
  have h := lane_lt y; have h' := (wk L).isLt
  unfold firstCells
  rw [BitVec.toNat_ofNat]
  omega

/-- The result cell of a lane's second coordinate. -/
theorem secondCells_toNat (y : S128.Idx) : (secondCells L y).toNat = 256 * (wk L).val + 2 * (y 0).val + 1 := by
  have h := lane_lt y; have h' := (wk L).isLt
  unfold secondCells
  rw [BitVec.toNat_ofNat]
  omega

/-- The words asked for are in the table; the cells are in the result. -/
theorem firstWords_lt (hn : ∀ j, (n j).toNat < 100000) (y : S128.Idx) : (firstWords d L n y).toNat < S200000.size gathers_S200000_S128.axis := by
  rw [firstWords_toNat d L n hn]; have := entryAt_lt n hn (128 * (wk L).val + (y 0).val); show _ < 200000; omega
/-- The words of the second coordinates are in the table. -/
theorem secondWords_lt (hn : ∀ j, (n j).toNat < 100000) (y : S128.Idx) : (secondWords d L n y).toNat < S200000.size gathers_S200000_S128.axis := by
  rw [secondWords_toNat d L n hn]; have := entryAt_lt n hn (128 * (wk L).val + (y 0).val); show _ < 200000; omega
/-- The cells of the first coordinates are in the result. -/
theorem firstCells_lt (y : S128.Idx) : (firstCells L y).toNat < S8192.size gathers_S8192_S128.axis := by
  rw [firstCells_toNat]; have := lane_lt y; have := (wk L).isLt; show _ < 8192; omega
/-- The cells of the second coordinates are in the result. -/
theorem secondCells_lt (y : S128.Idx) : (secondCells L y).toNat < S8192.size gathers_S8192_S128.axis := by
  rw [secondCells_toNat]; have := lane_lt y; have := (wk L).isLt; show _ < 8192; omega

/-- Two lanes with one number are one lane. -/
theorem lane_ext (x y : S128.Idx) (h : (x 0).val = (y 0).val) : x = y := by
  funext a
  match a with
  | 0 => exact Fin.ext h

/-- No two lanes have one cell for their first coordinates. -/
theorem firstCells_injective : Function.Injective fun y => (firstCells L y).toNat := fun x y h => by
  have h' : (firstCells L x).toNat = (firstCells L y).toNat := h
  rw [firstCells_toNat, firstCells_toNat] at h'
  exact lane_ext x y (by omega)
/-- No two lanes have one cell for their second coordinates. -/
theorem secondCells_injective : Function.Injective fun y => (secondCells L y).toNat := fun x y h => by
  have h' : (secondCells L x).toNat = (secondCells L y).toNat := h
  rw [secondCells_toNat, secondCells_toNat] at h'
  exact lane_ext x y (by omega)

end Lists

/-! ## What the gathers bring in -/

/-- The row a list names for lane `k` is the word of that lane. -/
theorem rows_lane {z o : ℕ} (w : S128.Idx → BitVec 32) (hl : S128.numel = o) (hw : ∀ y, (w y).toNat < z) (k : Fin o)
    (y : S128.Idx) (hy : (y 0).val = k.val) : (rows (F := F) w hl hw k).val = (w y).toNat := by
  show (w (S128.rowMajor.symm (k.cast hl.symm))).toNat = (w y).toNat
  rw [show S128.rowMajor.symm (k.cast hl.symm) = y from
    (Equiv.symm_apply_eq _).mpr (Fin.ext ((Shape.rowMajor_val_one y).trans hy).symm)]

/-- A list of distinct words names distinct rows. -/
theorem rows_injective {z o : ℕ} (w : S128.Idx → BitVec 32) (hl : S128.numel = o) (hw : ∀ y, (w y).toNat < z)
    (hi : Function.Injective fun y => (w y).toNat) : Function.Injective (rows (F := F) w hl hw) := fun a b h => by
  have h' := congrArg Fin.val h
  change (w (S128.rowMajor.symm (a.cast hl.symm))).toNat = (w (S128.rowMajor.symm (b.cast hl.symm))).toNat at h'
  exact Fin.cast_injective hl.symm (S128.rowMajor.symm.injective (hi h'))

section Gathered

variable (d : Dev nD) (L : grid0.Coords) (t : Buf (Elt F) (tLoc d))

/-- A gather of single words by a list brings in, at each lane, the table's word that the list's lane names. -/
theorem gathered (w : S128.Idx → BitVec 32) (hw : ∀ y, (w y).toNat < S200000.size gathers_S200000_S128.axis)
    (hl : S128.numel = S128.size gathers_S200000_S128.axis') (y : S128.Idx) :
    gatherPayload gathers_S200000_S128 ((tK).view.read (Elt F) t) (rows (F := F) w hl hw) y = tableAt t (w y).toNat := by
  unfold gatherPayload
  refine ((View.read_apply _ _).trans (cast_eq _ _)).trans (tableAt_eq t _ _ ?_)
  show 0 + 1 * (gathers_S200000_S128.idx (rows (F := F) w hl hw) y gathers_S200000_S128.axis).val = _
  rw [Shape.Gathers.idx_axis, rows_lane (F := F) w hl hw (y gathers_S200000_S128.axis') y rfl]
  omega

end Gathered

/-! ## What the scatters leave -/

section Scattered

variable (d : Dev nD) (L : grid0.Coords)

/-- The result's row `k`, one word: the cell of that number. -/
theorem mem_cell (k : Fin (S8192.size gathers_S8192_S128.axis)) (x : S8192.Idx) :
    x ∈ ((oK).view.slice (S8192.rowRect gathers_S8192_S128.axis k)).set ↔ (x 0).val = k.val := by
  constructor
  · intro h
    obtain ⟨j, -, rfl⟩ := Finset.mem_map.mp h
    have hj : (j 0).val < 1 := (j 0).isLt
    show 0 + 1 * (k.val + 1 * (j 0).val) = k.val
    omega
  · intro h
    refine Finset.mem_map.mpr ⟨fun | 0 => ⟨0, Nat.one_pos⟩ | ⟨_ + 1, h⟩ => absurd h (by simp), Finset.mem_univ _, ?_⟩
    funext a
    match a with
    | 0 => exact Fin.ext (by show 0 + 1 * (k.val + 1 * 0) = (x 0).val; omega)

/-- The cells a list names are those whose number is one of its words. -/
theorem mem_named (w : S128.Idx → BitVec 32) (hw : ∀ y, (w y).toNat < S8192.size gathers_S8192_S128.axis)
    (hl : S128.numel = S128.size gathers_S8192_S128.axis') (x : S8192.Idx) :
    x ∈ namedRows (V d (cV L) (jV L)) (oK).view gathers_S8192_S128.axis (rows (F := F) w hl hw) ↔ ∃ y, (x 0).val = (w y).toNat := by
  rw [SparseCore.namedRows_eq, Finset.mem_biUnion]
  constructor
  · rintro ⟨k, -, hk⟩
    refine ⟨fun | 0 => k | ⟨_ + 1, h⟩ => absurd h (by simp), ?_⟩
    rw [(mem_cell _ _).mp hk]
    exact rows_lane (F := F) w hl hw k _ rfl
  · rintro ⟨y, hy⟩
    exact ⟨y 0, Finset.mem_univ _, (mem_cell _ _).mpr (hy.trans (rows_lane (F := F) w hl hw (y 0) y rfl).symm)⟩

/-- A scatter of single words by a list of distinct cells leaves, in each cell the list names, the source's lane of that name. -/
theorem scattered (src : Memref sig .scVector .vmem S128 .f32) (fs : Buf (Elt F) (src.view.loc (V d (cV L) (jV L))))
    (w : S128.Idx → BitVec 32) (hw : ∀ y, (w y).toNat < S8192.size gathers_S8192_S128.axis)
    (hl : S128.numel = S128.size gathers_S8192_S128.axis') (hinj : Function.Injective (rows (F := F) w hl hw))
    (fd : Buf (Elt F) (oLoc d)) (G : S8192.Idx → F .f32)
    (hG : ∀ (y : S128.Idx) (x : S8192.Idx), (x 0).val = (w y).toNat → src.view.read (Elt F) fs y = G x)
    (x : S8192.Idx) (hx : x ∈ namedRows (V d (cV L) (jV L)) (oK).view gathers_S8192_S128.axis (rows (F := F) w hl hw)) :
    scatterBuf (V d (cV L) (jV L)) (oK).view gathers_S8192_S128.axis (rows (F := F) w hl hw)
      (scatterRowPayload (V d (cV L) (jV L)) src gathers_S8192_S128 fs) fd x = G x := by
  obtain ⟨k, -, hk⟩ := Finset.mem_biUnion.mp ((SparseCore.namedRows_eq _ _ _ _) ▸ hx)
  have hxk := (mem_cell _ x).mp hk
  refine (SparseCore.scatterBuf_of_mem _ _ _ _ hinj _ _ hk).trans ?_
  obtain ⟨j, -, rfl⟩ := Finset.mem_map.mp hk
  refine (View.write_emb_of_mem _ _ (Finset.mem_univ j)).trans ((cast_eq _ _).trans ?_)
  refine Eq.trans ?_ (hG (fun | 0 => k | ⟨_ + 1, h⟩ => absurd h (by simp)) _ (hxk.trans (rows_lane (F := F) w hl hw k _ rfl)))
  rw [View.read_apply]
  refine (View.read_apply _ _).trans ?_
  have e : ((src.slice (S128.rowRect gathers_S8192_S128.axis' k) (S128.stride_rowRect _ _)).cast gathers_S8192_S128.rowShape_eq rfl).view.emb j
      = src.view.emb (fun | 0 => k | ⟨_ + 1, h⟩ => absurd h (by simp)) := by
    refine congrArg src.view.emb (funext fun a => ?_)
    match a with
    | 0 =>
      have hj : ∀ j' : (S128.rowShape gathers_S8192_S128.axis').Idx, k.val + 1 * (j' gathers_S8192_S128.axis').val = k.val := fun j' => by
        have : (j' gathers_S8192_S128.axis').val < 1 := (j' gathers_S8192_S128.axis').isLt
        omega
      exact Fin.ext (hj ((Shape.idxEquiv gathers_S8192_S128.rowShape_eq).symm j))
  rw [e]

end Scattered

end Cert.Proof.Gps

end
-- ==== Proof.Tile.lean ====
/-
  One tile's task. It copies its 128 entries in, spreads them into four lists of words and cells, gathers the table's words by the
  first two lists, clamps and scales what came in, and scatters the outcome by the last two lists into its cells of the result.
  `tile_body` runs it: from the tile's entries, a share of the table and its cells of the result to the same with the cells
  at `scaledRows`, the tile's buffers and semaphores given back.
-/
module

public import proofs.«01_k».proof.Proof.Values

@[expose] public section

noncomputable section

namespace Cert.Proof.Gps

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v0_scv : Memref Cert.KernelIdeal.sig Kind.scVector Space.hbm Cert.KernelIdeal.S200000 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v1_scv : Memref Cert.KernelIdeal.sig Kind.scVector Space.hbm Cert.KernelIdeal.S8192 EltTy.f32)
local notation "bV0" => (Memref.whole Cert.KernelIdeal.cc0_scratch0 : Memref Cert.KernelIdeal.sig Kind.scVector Space.vmem Cert.KernelIdeal.S128 EltTy.i32)
local notation "bV1" => (Memref.whole Cert.KernelIdeal.cc0_scratch1 : Memref Cert.KernelIdeal.sig Kind.scVector Space.vmem Cert.KernelIdeal.S128 EltTy.i32)
local notation "bV2" => (Memref.whole Cert.KernelIdeal.cc0_scratch2 : Memref Cert.KernelIdeal.sig Kind.scVector Space.vmem Cert.KernelIdeal.S128 EltTy.i32)
local notation "bV3" => (Memref.whole Cert.KernelIdeal.cc0_scratch3 : Memref Cert.KernelIdeal.sig Kind.scVector Space.vmem Cert.KernelIdeal.S128 EltTy.i32)
local notation "bV4" => (Memref.whole Cert.KernelIdeal.cc0_scratch4 : Memref Cert.KernelIdeal.sig Kind.scVector Space.vmem Cert.KernelIdeal.S128 EltTy.i32)
local notation "bV5" => (Memref.whole Cert.KernelIdeal.cc0_scratch5 : Memref Cert.KernelIdeal.sig Kind.scVector Space.vmem Cert.KernelIdeal.S128 EltTy.f32)
local notation "bV6" => (Memref.whole Cert.KernelIdeal.cc0_scratch6 : Memref Cert.KernelIdeal.sig Kind.scVector Space.vmem Cert.KernelIdeal.S128 EltTy.f32)

variable (d : Dev nD) (L : grid0.Coords)
variable (q : PosShare TreeShare) (t : Buf (Elt F) (tLoc d)) (n : Buf (Elt F) (iLoc d)) (o : Buf (Elt F) (oLoc d))

/-- Worker `w`'s entries of the index list; a share of the table; worker `w`'s cells of the result. -/
abbrev iPts (w : Fin 32) (n : Buf (Elt F) (iLoc d)) : sProp 𝕄 := iLoc d ↦[iSet w]{fullShare} n
abbrev tPts (q : PosShare TreeShare) (t : Buf (Elt F) (tLoc d)) : sProp 𝕄 := tLoc d ↦{q} t
abbrev oPts (w : Fin 32) (o : Buf (Elt F) (oLoc d)) : sProp 𝕄 := oLoc d ↦[oSet w]{fullShare} o

/-- A tile's part of the index list, held as the slice that the tile copies. -/
theorem pts_iK (f : Buf (Elt F) (iLoc d)) :
    ((iK L).view.loc (V d (cV L) (jV L)) ↦[(iK L).view.set]{fullShare} f : sProp 𝕄) = iLoc d ↦[iSet (wk L)]{fullShare} f := by
  rw [set_iK]

/-- A share of the table, held as the whole array that a tile names. -/
theorem pts_tV (f : Buf (Elt F) (tLoc d)) :
    ((tV).view.loc (V d (cV L) (jV L)) ↦{q} f : sProp 𝕄) = tLoc d ↦{q} f := rfl
/-- The scratch buffer 0 of a tile, held as the whole array that the tile names. -/
theorem pts_bV0 (f : Buf (Elt F) ((V d (cV L) (jV L)).loc cc0_scratch0)) :
    ((bV0).view.loc (V d (cV L) (jV L)) ↦{fullShare} f : sProp 𝕄) = (V d (cV L) (jV L)).loc cc0_scratch0 ↦{fullShare} f := rfl
/-- The scratch buffer 1 of a tile, held as the whole array that the tile names. -/
theorem pts_bV1 (f : Buf (Elt F) ((V d (cV L) (jV L)).loc cc0_scratch1)) :
    ((bV1).view.loc (V d (cV L) (jV L)) ↦{fullShare} f : sProp 𝕄) = (V d (cV L) (jV L)).loc cc0_scratch1 ↦{fullShare} f := rfl
/-- The scratch buffer 2 of a tile, held as the whole array that the tile names. -/
theorem pts_bV2 (f : Buf (Elt F) ((V d (cV L) (jV L)).loc cc0_scratch2)) :
    ((bV2).view.loc (V d (cV L) (jV L)) ↦{fullShare} f : sProp 𝕄) = (V d (cV L) (jV L)).loc cc0_scratch2 ↦{fullShare} f := rfl
/-- The scratch buffer 3 of a tile, held as the whole array that the tile names. -/
theorem pts_bV3 (f : Buf (Elt F) ((V d (cV L) (jV L)).loc cc0_scratch3)) :
    ((bV3).view.loc (V d (cV L) (jV L)) ↦{fullShare} f : sProp 𝕄) = (V d (cV L) (jV L)).loc cc0_scratch3 ↦{fullShare} f := rfl
/-- The scratch buffer 4 of a tile, held as the whole array that the tile names. -/
theorem pts_bV4 (f : Buf (Elt F) ((V d (cV L) (jV L)).loc cc0_scratch4)) :
    ((bV4).view.loc (V d (cV L) (jV L)) ↦{fullShare} f : sProp 𝕄) = (V d (cV L) (jV L)).loc cc0_scratch4 ↦{fullShare} f := rfl
/-- The scratch buffer 5 of a tile, held as the whole array that the tile names. -/
theorem pts_bV5 (f : Buf (Elt F) ((V d (cV L) (jV L)).loc cc0_scratch5)) :
    ((bV5).view.loc (V d (cV L) (jV L)) ↦{fullShare} f : sProp 𝕄) = (V d (cV L) (jV L)).loc cc0_scratch5 ↦{fullShare} f := rfl
/-- The scratch buffer 6 of a tile, held as the whole array that the tile names. -/
theorem pts_bV6 (f : Buf (Elt F) ((V d (cV L) (jV L)).loc cc0_scratch6)) :
    ((bV6).view.loc (V d (cV L) (jV L)) ↦{fullShare} f : sProp 𝕄) = (V d (cV L) (jV L)).loc cc0_scratch6 ↦{fullShare} f := rfl

/-- Recasting a vector to its own shape changes nothing. -/
theorem shapeCast_same {α : Type} {s : Shape} (v : s.Idx → α) (h : s.ShapeCasts s) : shapeCast s v h = v :=
  funext fun x => congrArg v (Shape.reshapeEquiv_self _ x)

/-- A load of sixteen lanes of the first buffer, once the index copy has filled it, reads the copy's lanes. -/
theorem loaded_entry (f0 v : cc0_scratch0.ty.Contents (Elt F)) (R : Rect S128) (x : R.shape.Idx) :
    View.readAt (Elt F) (View.whole cc0_scratch0) R.toLoadRect (View.write (Elt F) (View.whole cc0_scratch0) f0 v Finset.univ) x = v (R.emb x) := by
  rw [View.write_whole_univ]
  rfl

/-- The tile's first entry, as the tile computes it from its coordinates. -/
def tileWord : BitVec 32 :=
  Scalar.muli (Scalar.addi (Scalar.muli (BitVec.ofNat 32 (L 1).val) 2#32) (BitVec.ofNat 32 (L 0).val)) 128#32

/-- Twice the number of an entry, as the tile computes it sixteen lanes at a time from lane `b` on, is the cell of the entry's first
    coordinate. -/
theorem firstCells_block (b : ℕ) (hb : ∀ a, (![b] : Fin 1 → ℕ) a + (![16] : Fin 1 → ℕ) a ≤ S128.size a) (x : S16.Idx) :
    shapeCast S16 (muli (addi (broadcast S16 (Scalar.addi (tileWord L) (BitVec.ofNat 32 b))) (iota .scVector S16 32 [0] iota_S16_d0_w32_scVector))
        (broadcast S16 2#32)) shapeCasts_S16_S16 x
      = firstCells L ((Rect.unit (s := S128) ![b] ![16] hb).emb x) := by
  have h0 : (L 0).val < 2 := (L 0).isLt
  have h1 : (L 1).val < 16 := (L 1).isLt
  have hx : (x 0).val < 16 := (x 0).isLt
  have hb0 : b + 16 ≤ 128 := hb 0
  rw [shapeCast_same]
  apply BitVec.eq_of_toNat_eq
  rw [firstCells_toNat]
  show ((((BitVec.ofNat 32 (L 1).val * 2#32 + BitVec.ofNat 32 (L 0).val) * 128#32 + BitVec.ofNat 32 b) + BitVec.ofNat 32 (0 * 16 + (x 0).val)) * 2#32).toNat
    = 256 * (2 * (L 1).val + (L 0).val) + 2 * (b + 1 * (x 0).val)
  simp only [BitVec.toNat_mul, BitVec.toNat_add, BitVec.toNat_ofNat]
  omega

/-- The next cell is the one of the entry's second coordinate. -/
theorem secondCells_block (b : ℕ) (hb : ∀ a, (![b] : Fin 1 → ℕ) a + (![16] : Fin 1 → ℕ) a ≤ S128.size a) (x : S16.Idx) :
    shapeCast S16 (addi (muli (addi (broadcast S16 (Scalar.addi (tileWord L) (BitVec.ofNat 32 b))) (iota .scVector S16 32 [0] iota_S16_d0_w32_scVector))
        (broadcast S16 2#32)) (broadcast S16 1#32)) shapeCasts_S16_S16 x
      = secondCells L ((Rect.unit (s := S128) ![b] ![16] hb).emb x) := by
  have h := firstCells_block L b hb x
  rw [shapeCast_same] at h ⊢
  refine (congrArg (fun w => IntOp.addi w 1#32) h).trans (BitVec.eq_of_toNat_eq ?_)
  have hy := lane_lt ((Rect.unit (s := S128) ![b] ![16] hb).emb x)
  have hw := (wk L).isLt
  rw [secondCells_toNat]
  show (firstCells L _ + 1#32).toNat = _
  rw [BitVec.toNat_add, firstCells_toNat, BitVec.toNat_ofNat]
  omega

/-- Sixteen lanes of the entries, doubled, are the first words of those lanes; -/
theorem firstWords_block (f0 : cc0_scratch0.ty.Contents (Elt F)) (R : Rect S128) (h : R.shape = S16) (x : S16.Idx) :
    shapeCast S16 (muli (shapeCast S16 (fun z : S16.Idx => View.readAt (Elt F) (View.whole cc0_scratch0) R.toLoadRect
        (View.write (Elt F) (View.whole cc0_scratch0) f0 (entries d L n) Finset.univ) (h ▸ z)) shapeCasts_S16_S16) (broadcast S16 2#32)) shapeCasts_S16_S16 x
      = firstWords d L n (R.emb (h ▸ x)) := by
  rw [shapeCast_same, shapeCast_same]
  exact congrArg (fun w => IntOp.muli w 2#32) (loaded_entry (F := F) _ _ _ _)

/-- and, one further, the second words. -/
theorem secondWords_block (f0 : cc0_scratch0.ty.Contents (Elt F)) (R : Rect S128) (h : R.shape = S16) (x : S16.Idx) :
    shapeCast S16 (addi (muli (shapeCast S16 (fun z : S16.Idx => View.readAt (Elt F) (View.whole cc0_scratch0) R.toLoadRect
        (View.write (Elt F) (View.whole cc0_scratch0) f0 (entries d L n) Finset.univ) (h ▸ z)) shapeCasts_S16_S16) (broadcast S16 2#32)) (broadcast S16 1#32))
        shapeCasts_S16_S16 x
      = secondWords d L n (R.emb (h ▸ x)) := by
  rw [shapeCast_same, shapeCast_same]
  exact congrArg (fun w => IntOp.addi (IntOp.muli w 2#32) 1#32) (loaded_entry (F := F) _ _ _ _)

/-- A buffer filled by stores of one function's values holds that function. -/
theorem filled (r : Ref sig .scVector) (f : r.ty.Contents (Elt F)) (P : List (View.Piece (Elt F) r.ty.shape r.ty.elt)) (G : r.ty.Contents (Elt F))
    (hG : ∀ p ∈ P, ∀ x : p.1.shape.Idx, p.2 x = G (p.1.emb x)) (hcov : ∀ y, ∃ p ∈ P, y ∈ p.1.set) :
    ((Memref.whole r).view.loc (V d (cV L) (jV L)) ↦{fullShare} (Memref.whole r).view.writes (Elt F) f P : sProp 𝕄)
      ⊢ (Memref.whole r).view.loc (V d (cV L) (jV L)) ↦{fullShare} G :=
  Entails.of_eq (by rw [writes_whole r f P G hG hcov])

/-! ## The two gathers -/

/-- The slice of the table that the gathers read is all of it. -/
theorem set_tK : (tK).view.set = Finset.univ :=
  Finset.eq_univ_of_forall fun (x : S200000.Idx) => Finset.mem_map.mpr ⟨x, Finset.mem_univ _, funext fun (a : Fin 1) =>
    match a with
    | 0 => Fin.ext (by show 0 + 1 * (x 0).val = (x 0).val; omega)⟩

/-- What the table's words at a list's places are. -/
def wordsRead (w : S128.Idx → BitVec 32) : S128.Idx → F .f32 := fun y => tableAt t (w y).toNat

/-- What the rows of the first gather deliver, -/
def firstGather (hn : ∀ j, (n j).toNat < 100000) (f5 : Buf (Elt F) ((V d (cV L) (jV L)).loc cc0_scratch5)) :
    Fin (S128.size gathers_S200000_S128.axis') → sProp 𝕄 :=
  StreamBatch.gatherRowOut (V d (cV L) (jV L)) tK bV5 gathers_S200000_S128 bV1 rfl (by decide) q.left fullShare t f5 (firstWords d L n)
    (SparseCore.rows ((bV1).view.read (Elt F) (firstWords d L n)) rfl (firstWords_lt d L n hn))
/-- and those of the second. -/
def secondGather (hn : ∀ j, (n j).toNat < 100000) (f6 : Buf (Elt F) ((V d (cV L) (jV L)).loc cc0_scratch6)) :
    Fin (S128.size gathers_S200000_S128.axis') → sProp 𝕄 :=
  StreamBatch.gatherRowOut (V d (cV L) (jV L)) tK bV6 gathers_S200000_S128 bV2 rfl (by decide) q.right fullShare t f6 (secondWords d L n)
    (SparseCore.rows ((bV2).view.read (Elt F) (secondWords d L n)) rfl (secondWords_lt d L n hn))

/-- What a row of the first gather delivers may be kept in the batch. -/
instance firstGather_storable (hn : ∀ j, (n j).toNat < 100000) (f5 : Buf (Elt F) ((V d (cV L) (jV L)).loc cc0_scratch5))
    (x : Fin (S128.size gathers_S200000_S128.axis')) : Storable (upEmb : UEmb _ 𝕄) (firstGather d L q t n hn f5 x) :=
  StreamBatch.gatherRowOut_storable (V d (cV L) (jV L)) _ _ _ _ _ _ _ _ _ _ _ _ _
/-- What a row of the second gather delivers may be kept in the batch. -/
instance secondGather_storable (hn : ∀ j, (n j).toNat < 100000) (f6 : Buf (Elt F) ((V d (cV L) (jV L)).loc cc0_scratch6))
    (x : Fin (S128.size gathers_S200000_S128.axis')) : Storable (upEmb : UEmb _ 𝕄) (secondGather d L q t n hn f6 x) :=
  StreamBatch.gatherRowOut_storable (V d (cV L) (jV L)) _ _ _ _ _ _ _ _ _ _ _ _ _

/-- A whole buffer held is its whole view's cells held. -/
theorem pts_whole (r : Ref sig .scVector) (f : r.ty.Contents (Elt F)) :
    ((Memref.whole r).view.loc (V d (cV L) (jV L)) ↦{fullShare} f : sProp 𝕄)
      = (Memref.whole r).view.loc (V d (cV L) (jV L)) ↦[(Memref.whole r).view.set]{fullShare} f := by
  rw [show (Memref.whole r).view.set = Finset.univ from View.set_whole r]

/-- The table's share in two halves, as the two gathers take it. -/
theorem table_halves :
    ((tV).view.loc (V d (cV L) (jV L)) ↦{q} t : sProp 𝕄)
      = iprop(((tK).view.loc (V d (cV L) (jV L)) ↦[(tK).view.set]{q.left} t) ∗ ((tK).view.loc (V d (cV L) (jV L)) ↦[(tK).view.set]{q.right} t)) := by
  rw [set_tK]
  exact BI.Entails.antisymm (pointsTo_share (PosShare.mem_left_op_right q)).1 (pointsTo_share (PosShare.mem_left_op_right q)).2

/-- The two gathers' deliveries together: the two buffers at the words read, the table's share and the two lists. -/
theorem gathers_done (hn : ∀ j, (n j).toNat < 100000) (f5 : Buf (Elt F) ((V d (cV L) (jV L)).loc cc0_scratch5))
    (f6 : Buf (Elt F) ((V d (cV L) (jV L)).loc cc0_scratch6)) :
    bigSep Finset.univ (StreamBatch.twoFamilies (firstGather d L q t n hn f5) (secondGather d L q t n hn f6))
      ⊢ iprop(((bV5).view.loc (V d (cV L) (jV L)) ↦{fullShare} wordsRead d t (firstWords d L n))
          ∗ ((bV6).view.loc (V d (cV L) (jV L)) ↦{fullShare} wordsRead d t (secondWords d L n))
          ∗ ((tV).view.loc (V d (cV L) (jV L)) ↦{q} t)
          ∗ ((bV1).view.loc (V d (cV L) (jV L)) ↦{fullShare} firstWords d L n)
          ∗ ((bV2).view.loc (V d (cV L) (jV L)) ↦{fullShare} secondWords d L n)) := by
  have h1 := StreamBatch.gatherRowOut_all (Ix := HIx 1) (Name := ℕ) (U := UU) (Lvl := ℕ) (V d (cV L) (jV L)) tK bV5 gathers_S200000_S128 bV1 rfl (by decide) q.left fullShare t f5 (firstWords d L n)
    (SparseCore.rows ((bV1).view.read (Elt F) (firstWords d L n)) rfl (firstWords_lt d L n hn))
  have h2 := StreamBatch.gatherRowOut_all (Ix := HIx 1) (Name := ℕ) (U := UU) (Lvl := ℕ) (V d (cV L) (jV L)) tK bV6 gathers_S200000_S128 bV2 rfl (by decide) q.right fullShare t f6 (secondWords d L n)
    (SparseCore.rows ((bV2).view.read (Elt F) (secondWords d L n)) rfl (secondWords_lt d L n hn))
  have e1 : (bV5).view.write (Elt F) f5 (SparseCore.gatherPayload gathers_S200000_S128 ((tK).view.read (Elt F) t)
      (SparseCore.rows ((bV1).view.read (Elt F) (firstWords d L n)) rfl (firstWords_lt d L n hn))) Finset.univ = wordsRead d t (firstWords d L n) :=
    (View.write_whole_univ _ _ _).trans (funext fun y => gathered d t (firstWords d L n) _ _ y)
  have e2 : (bV6).view.write (Elt F) f6 (SparseCore.gatherPayload gathers_S200000_S128 ((tK).view.read (Elt F) t)
      (SparseCore.rows ((bV2).view.read (Elt F) (secondWords d L n)) rfl (secondWords_lt d L n hn))) Finset.univ = wordsRead d t (secondWords d L n) :=
    (View.write_whole_univ _ _ _).trans (funext fun y => gathered d t (secondWords d L n) _ _ y)
  rw [e1] at h1
  rw [e2] at h2
  refine (StreamBatch.twoFamilies_split _ _).trans ?_
  rw [table_halves, pts_whole d L cc0_scratch1, pts_whole d L cc0_scratch2, pts_whole d L cc0_scratch5, pts_whole d L cc0_scratch6]
  iintro ⟨HA, HB⟩
  ihave HA := (show bigSep Finset.univ (firstGather d L q t n hn f5) ⊢ _ from h1) $$ HA
  ihave HB := (show bigSep Finset.univ (secondGather d L q t n hn f6) ⊢ _ from h2) $$ HB
  icases HA with ⟨H5, Htl, H1⟩
  icases HB with ⟨H6, Htr, H2⟩
  isplitl [H5]; · iexact H5
  isplitl [H6]; · iexact H6
  isplitl [Htl Htr]
  · isplitl [Htl]; · iexact Htl
    iexact Htr
  isplitl [H1]; · iexact H1
  iexact H2

/-- The words of the two gathers clamped and scaled. -/
def scaledFirst : S128.Idx → F .f32 := fun y => FloatOps.mulf (clampUnit (wordsRead d t (firstWords d L n) y)) (Scalar.ofBits .f32 0x42B40000#32)
/-- The second coordinates, clamped and scaled. -/
def scaledSecond : S128.Idx → F .f32 := fun y => FloatOps.mulf (clampUnit (wordsRead d t (secondWords d L n) y)) (Scalar.ofBits .f32 0x43340000#32)

/-- Sixteen lanes of a buffer, clamped and multiplied, are those lanes' words clamped and multiplied. -/
theorem scaled_block (g : S128.Idx → F .f32) (c : F .f32) (R : Rect S128) (h : R.shape = S16) (x : S16.Idx) :
    shapeCast S16 (mulf (minimumf (maximumf (shapeCast S16 (fun z : S16.Idx => g (R.emb (h ▸ z))) shapeCasts_S16_S16)
        (broadcast S16 (Scalar.ofBits .f32 0xBF800000#32))) (broadcast S16 (Scalar.ofBits .f32 0x3F800000#32))) (broadcast S16 c)) shapeCasts_S16_S16 x
      = FloatOps.mulf (clampUnit (g (R.emb (h ▸ x)))) c := by
  rw [shapeCast_same, shapeCast_same]
  rfl

/-! ## The two scatters -/

/-- The first scatter names no cell twice. -/
theorem firstRows_injective : Function.Injective (SparseCore.rows ((bV3).view.read (Elt F) (firstCells L))
    (rfl : S128.numel = S128.size gathers_S8192_S128.axis') (firstCells_lt L)) := rows_injective _ _ _ (firstCells_injective L)
/-- The second scatter names no cell twice. -/
theorem secondRows_injective : Function.Injective (SparseCore.rows ((bV4).view.read (Elt F) (secondCells L))
    (rfl : S128.numel = S128.size gathers_S8192_S128.axis') (secondCells_lt L)) := rows_injective _ _ _ (secondCells_injective L)

/-- The cells the first scatter writes, -/
abbrev firstSet : Finset S8192.Idx :=
  SparseCore.namedRows (V d (cV L) (jV L)) (oK).view gathers_S8192_S128.axis (SparseCore.rows ((bV3).view.read (Elt F) (firstCells L)) rfl (firstCells_lt L))
/-- and those the second writes. -/
abbrev secondSet : Finset S8192.Idx :=
  SparseCore.namedRows (V d (cV L) (jV L)) (oK).view gathers_S8192_S128.axis (SparseCore.rows ((bV4).view.read (Elt F) (secondCells L)) rfl (secondCells_lt L))

/-- A cell is one of the first scatter's when its number is even within the worker's cells, -/
theorem mem_firstSet (x : S8192.Idx) : x ∈ firstSet (F := F) d L ↔ x ∈ oSet (wk L) ∧ (x 0).val % 2 = 0 := by
  refine (mem_named (F := F) d L (firstCells L) (firstCells_lt L) rfl x).trans ?_
  rw [mem_oSet]
  constructor
  · rintro ⟨y, hy⟩
    have := lane_lt y
    rw [firstCells_toNat] at hy
    omega
  · intro h
    refine ⟨fun | 0 => ⟨((x 0).val - 256 * (wk L).val) / 2, by show _ < 128; omega⟩ | ⟨_ + 1, h⟩ => absurd h (by simp), ?_⟩
    rw [firstCells_toNat]
    show (x 0).val = 256 * (wk L).val + 2 * (((x 0).val - 256 * (wk L).val) / 2)
    omega

/-- and one of the second's when it is odd. -/
theorem mem_secondSet (x : S8192.Idx) : x ∈ secondSet (F := F) d L ↔ x ∈ oSet (wk L) ∧ (x 0).val % 2 = 1 := by
  refine (mem_named (F := F) d L (secondCells L) (secondCells_lt L) rfl x).trans ?_
  rw [mem_oSet]
  constructor
  · rintro ⟨y, hy⟩
    have := lane_lt y
    rw [secondCells_toNat] at hy
    omega
  · intro h
    refine ⟨fun | 0 => ⟨((x 0).val - 256 * (wk L).val) / 2, by show _ < 128; omega⟩ | ⟨_ + 1, h⟩ => absurd h (by simp), ?_⟩
    rw [secondCells_toNat]
    show (x 0).val = 256 * (wk L).val + 2 * (((x 0).val - 256 * (wk L).val) / 2) + 1
    omega

/-- The worker's cells are those of the two scatters. -/
theorem cells_split (f : Buf (Elt F) (oLoc d)) :
    (oPts d (wk L) f : sProp 𝕄)
      = iprop(((oK).view.loc (V d (cV L) (jV L)) ↦[firstSet (F := F) d L]{fullShare} f) ∗ ((oK).view.loc (V d (cV L) (jV L)) ↦[secondSet (F := F) d L]{fullShare} f)) := by
  have hsub : firstSet (F := F) d L ⊆ oSet (wk L) := fun x hx => ((mem_firstSet (F := F) d L x).mp hx).1
  have hrest : oSet (wk L) \ firstSet (F := F) d L = secondSet (F := F) d L := by
    ext x
    rw [Finset.mem_sdiff, mem_firstSet, mem_secondSet]
    constructor
    · rintro ⟨h, h'⟩; exact ⟨h, by by_contra h2; exact h' ⟨h, by omega⟩⟩
    · rintro ⟨h, h'⟩; exact ⟨h, fun h2 => by omega⟩
  have h := pointsTo_split_subset (Ix := HIx 1) (Name := ℕ) (U := UU) (Lvl := ℕ) (ℓ := oLoc d) (q := fullShare) (f := f) hsub
  rw [hrest] at h
  exact BI.Entails.antisymm h.1 h.2

/-- What the rows of the first scatter deliver, -/
def firstScatter : Fin (S128.size gathers_S8192_S128.axis') → sProp 𝕄 :=
  StreamBatch.scatterRowOut (V d (cV L) (jV L)) bV5 oK gathers_S8192_S128 bV3 rfl fullShare fullShare (scaledFirst d L t n) o (firstCells L)
    (SparseCore.rows ((bV3).view.read (Elt F) (firstCells L)) rfl (firstCells_lt L))
/-- and those of the second. -/
def secondScatter : Fin (S128.size gathers_S8192_S128.axis') → sProp 𝕄 :=
  StreamBatch.scatterRowOut (V d (cV L) (jV L)) bV6 oK gathers_S8192_S128 bV4 rfl fullShare fullShare (scaledSecond d L t n) o (secondCells L)
    (SparseCore.rows ((bV4).view.read (Elt F) (secondCells L)) rfl (secondCells_lt L))

/-- What a row of the first scatter delivers may be kept in the batch. -/
instance firstScatter_storable (x : Fin (S128.size gathers_S8192_S128.axis')) : Storable (upEmb : UEmb _ 𝕄) (firstScatter d L t n o x) :=
  StreamBatch.scatterRowOut_storable (V d (cV L) (jV L)) _ _ _ _ _ _ _ _ _ _ _ _
/-- What a row of the second scatter delivers may be kept in the batch. -/
instance secondScatter_storable (x : Fin (S128.size gathers_S8192_S128.axis')) : Storable (upEmb : UEmb _ 𝕄) (secondScatter d L t n o x) :=
  StreamBatch.scatterRowOut_storable (V d (cV L) (jV L)) _ _ _ _ _ _ _ _ _ _ _ _

/-- The first scatter's lanes are the even cells of the result, -/
theorem scaledFirst_eq (hn : ∀ j, (n j).toNat < 100000) (y : S128.Idx) (x : S8192.Idx) (h : (x 0).val = (firstCells L y).toNat) :
    scaledFirst d L t n y = scaledRows t n x := by
  rw [firstCells_toNat] at h
  unfold scaledFirst scaledRows wordsRead
  rw [if_pos (by omega), firstWords_toNat d L n hn, show (x 0).val / 2 = 128 * (wk L).val + (y 0).val by omega]
/-- and the second's the odd ones. -/
theorem scaledSecond_eq (hn : ∀ j, (n j).toNat < 100000) (y : S128.Idx) (x : S8192.Idx) (h : (x 0).val = (secondCells L y).toNat) :
    scaledSecond d L t n y = scaledRows t n x := by
  rw [secondCells_toNat] at h
  unfold scaledSecond scaledRows wordsRead
  rw [if_neg (by omega), secondWords_toNat d L n hn, show (x 0).val / 2 = 128 * (wk L).val + (y 0).val by omega]

/-- The two scatters' deliveries together: the worker's cells at the result, the two buffers and the two lists. -/
theorem scatters_done (hn : ∀ j, (n j).toNat < 100000) :
    bigSep Finset.univ (StreamBatch.twoFamilies (firstScatter d L t n o) (secondScatter d L t n o))
      ⊢ iprop(oPts d (wk L) (scaledRows t n)
          ∗ ((bV5).view.loc (V d (cV L) (jV L)) ↦{fullShare} scaledFirst d L t n)
          ∗ ((bV6).view.loc (V d (cV L) (jV L)) ↦{fullShare} scaledSecond d L t n)
          ∗ ((bV3).view.loc (V d (cV L) (jV L)) ↦{fullShare} firstCells L)
          ∗ ((bV4).view.loc (V d (cV L) (jV L)) ↦{fullShare} secondCells L)) := by
  have h1 := StreamBatch.scatterRowOut_all (Ix := HIx 1) (Name := ℕ) (U := UU) (Lvl := ℕ) (V d (cV L) (jV L)) bV5 oK gathers_S8192_S128 bV3 rfl
    fullShare fullShare (scaledFirst d L t n) o (firstCells L) (SparseCore.rows ((bV3).view.read (Elt F) (firstCells L)) rfl (firstCells_lt L)) (firstRows_injective L)
  have h2 := StreamBatch.scatterRowOut_all (Ix := HIx 1) (Name := ℕ) (U := UU) (Lvl := ℕ) (V d (cV L) (jV L)) bV6 oK gathers_S8192_S128 bV4 rfl
    fullShare fullShare (scaledSecond d L t n) o (secondCells L) (SparseCore.rows ((bV4).view.read (Elt F) (secondCells L)) rfl (secondCells_lt L)) (secondRows_injective L)
  rw [pointsTo_congr (g := scaledRows t n) fun x hx => scattered d L bV5 (scaledFirst d L t n) (firstCells L) (firstCells_lt L) rfl (firstRows_injective L) o _
    (scaledFirst_eq d L t n hn) x hx] at h1
  rw [pointsTo_congr (g := scaledRows t n) fun x hx => scattered d L bV6 (scaledSecond d L t n) (secondCells L) (secondCells_lt L) rfl (secondRows_injective L) o _
    (scaledSecond_eq d L t n hn) x hx] at h2
  refine (StreamBatch.twoFamilies_split _ _).trans ?_
  rw [cells_split, pts_whole d L cc0_scratch3, pts_whole d L cc0_scratch4, pts_whole d L cc0_scratch5, pts_whole d L cc0_scratch6]
  iintro ⟨HA, HB⟩
  ihave HA := (show bigSep Finset.univ (firstScatter d L t n o) ⊢ _ from h1) $$ HA
  ihave HB := (show bigSep Finset.univ (secondScatter d L t n o) ⊢ _ from h2) $$ HB
  icases HA with ⟨Ho1, H5, H3⟩
  icases HB with ⟨Ho2, H6, H4⟩
  isplitl [Ho1 Ho2]
  · isplitl [Ho1]; · iexact Ho1
    iexact Ho2
  isplitl [H5]; · iexact H5
  isplitl [H6]; · iexact H6
  isplitl [H3]; · iexact H3
  iexact H4

/-! ## The task -/

set_option maxHeartbeats 4000000 in
/-- The task of the tile at `L` takes its cells of the result to `scaledRows` and gives everything else back. -/
theorem tile_body (hF : (K (F := F)).Facts) (hn : ∀ j, (n j).toNat < 100000) (O : CellTallies nD τ sig (HIx 1)) (W : Waits sig (HIx 1)) (hO : ∀ g, O g none = 0) :
    iprop(levAts (K (F := F)).L (K (F := F)).lev ∗ emp
        ∗ (iPts d (wk L) n ∗ tPts d q t ∗ oPts d (wk L) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            bV0 (Memref.isWhole_whole _) bV1 (Memref.isWhole_whole _) bV2 (Memref.isWhole_whole _) bV3 (Memref.isWhole_whole _)
            bV4 (Memref.isWhole_whole _) bV5 (Memref.isWhole_whole _) bV6 (Memref.isWhole_whole _) cc0_scratch7 cc0_scratch8 cc0_scoped0)
          fun _ => iprop((iPts d (wk L) n ∗ tPts d q t ∗ oPts d (wk L) (scaledRows t n))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_k_eq_skeleton]
  unfold cc0_k_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨⟨%f0, H0⟩, ⟨%f1, H1⟩, ⟨%f2, H2⟩, ⟨%f3, H3⟩, ⟨%f4, H4⟩, ⟨%f5, H5⟩, ⟨%f6, H6⟩⟩, Hbufs⟩, ⟨HsemS, HsemG, HsemW, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ht' := (Entails.of_eq (pts_tV (F := F) d L _ _).symm) $$ Ht
  ihave H0' := (Entails.of_eq (pts_bV0 (F := F) d L _).symm) $$ H0
  ihave H1' := (Entails.of_eq (pts_bV1 (F := F) d L _).symm) $$ H1
  ihave H2' := (Entails.of_eq (pts_bV2 (F := F) d L _).symm) $$ H2
  ihave H3' := (Entails.of_eq (pts_bV3 (F := F) d L _).symm) $$ H3
  ihave H4' := (Entails.of_eq (pts_bV4 (F := F) d L _).symm) $$ H4
  ihave H5' := (Entails.of_eq (pts_bV5 (F := F) d L _).symm) $$ H5
  ihave H6' := (Entails.of_eq (pts_bV6 (F := F) d L _).symm) $$ H6
  sl_exec
  ihave H1e := (filled (F := F) d L cc0_scratch1 _ _ (firstWords d L n) ?a1 ?b1) $$ H1'; rotate_left 2
  ihave H2e := (filled (F := F) d L cc0_scratch2 _ _ (secondWords d L n) ?a2 ?b2) $$ H2'; rotate_left 2
  ihave H3e := (filled (F := F) d L cc0_scratch3 _ _ (firstCells L) ?a3 ?b3) $$ H3'; rotate_left 2
  ihave H4e := (filled (F := F) d L cc0_scratch4 _ _ (secondCells L) ?a4 ?b4) $$ H4'; rotate_left 2
  case b1 => exact View.cover_of_tiled _ (fun _ => 16) rfl
  case b2 => exact View.cover_of_tiled _ (fun _ => 16) rfl
  case b3 => exact View.cover_of_tiled _ (fun _ => 16) rfl
  case b4 => exact View.cover_of_tiled _ (fun _ => 16) rfl
  case a1 =>
    change ∀ p ∈ [_, _, _, _, _, _, _, _], _
    simp only [List.forall_mem_cons]
    refine ⟨fun x => ?_, fun x => ?_, fun x => ?_, fun x => ?_, fun x => ?_, fun x => ?_, fun x => ?_, fun x => ?_, fun _ h => absurd h List.not_mem_nil⟩ <;>
      exact firstWords_block d L n f0 _ rfl x
  case a2 =>
    simp only [List.forall_mem_cons]
    refine ⟨fun x => ?_, fun x => ?_, fun x => ?_, fun x => ?_, fun x => ?_, fun x => ?_, fun x => ?_, fun x => ?_, fun _ h => absurd h List.not_mem_nil⟩ <;>
      exact secondWords_block d L n f0 _ rfl x
  case a3 =>
    simp only [List.forall_mem_cons]
    refine ⟨fun x => ?_, fun x => ?_, fun x => ?_, fun x => ?_, fun x => ?_, fun x => ?_, fun x => ?_, fun x => ?_, fun _ h => absurd h List.not_mem_nil⟩ <;>
      exact firstCells_block L _ _ x
  case a4 =>
    simp only [List.forall_mem_cons]
    refine ⟨fun x => ?_, fun x => ?_, fun x => ?_, fun x => ?_, fun x => ?_, fun x => ?_, fun x => ?_, fun x => ?_, fun _ h => absurd h List.not_mem_nil⟩ <;>
      exact secondCells_block L _ _ x
  -- The two gathers share one semaphore: 256 single-word rows, issued and then waited for in two halves.
  ihave H1s := (Entails.of_eq (pts_whole (F := F) d L cc0_scratch1 (firstWords d L n))) $$ H1e
  ihave H2s := (Entails.of_eq (pts_whole (F := F) d L cc0_scratch2 (secondWords d L n))) $$ H2e
  ihave H5s := (Entails.of_eq (pts_whole (F := F) d L cc0_scratch5 f5)) $$ H5'
  ihave H6s := (Entails.of_eq (pts_whole (F := F) d L cc0_scratch6 f6)) $$ H6'
  ihave Hts := (Entails.of_eq (table_halves (F := F) d L q t)) $$ Ht'
  icases Hts with ⟨Htl, Htr⟩
  have hG1 := StreamBatch.twoFamilies_left (firstGather d L q t n hn f5) (secondGather d L q t n hn f6)
  have hG2 := StreamBatch.twoFamilies_right (firstGather d L q t n hn f5) (secondGather d L q t n hn f6)
  imod (Transfers.batch_alloc' (countersEmb : UEmb Counters 𝕄) (V d (cV L) (jV L)) (default : HIx 1) 32
    (StreamBatch.twoFamilies (firstGather d L q t n hn f5) (secondGather d L q t n hn f6)) (sm := SemLoc.dma cc0_scratch7.sem)) $$ HsemG with HB
  iapply (StreamBatch.wp_gatherInBatch countersEmb 𝒱₀ (V d (cV L) (jV L)) none (default : HIx 1) 32 (by decide) (fun _ => rfl)
    (firstWords_lt d L n hn) (by decide) (Nat.zero_le _) (fun t' => hG1 t' _)) $$ [Htl H5s H1s HB]
  · isplitl [Htl]; · iexact Htl
    isplitl [H5s]; · iexact H5s
    isplitl [H1s]; · iexact H1s
    iexact HB
  iintro HB
  sl_exec
  iapply (StreamBatch.wp_gatherInBatch countersEmb 𝒱₀ (V d (cV L) (jV L)) none (default : HIx 1) 32 (by decide) (fun _ => rfl)
    (secondWords_lt d L n hn) (by decide) (Nat.zero_le _) (fun t' => hG2 t' _)) $$ [Htr H6s H2s HB]
  · isplitl [Htr]; · iexact Htr
    isplitl [H6s]; · iexact H6s
    isplitl [H2s]; · iexact H2s
    iexact HB
  iintro HB
  sl_exec
  iapply (Transfers.wp_waitBatchMulO countersEmb 𝒱₀ (V d (cV L) (jV L)) none (default : HIx 1) 128 (rfl : (bV5).view.dmaCredit = 128 * 32)
    (N := 32) (j := S128.size gathers_S200000_S128.axis' + S128.size gathers_S200000_S128.axis') (u := 0) (by decide)) $$ [HB HO]
  · isplitl [HB]; · iexact HB
    isplitl [HO]; · iexact HO
    iapply (Transfers.MayWaits.elim (SemLoc.dma cc0_scratch7.sem)) $$ Hmw
  iintro ⟨HB, HO⟩
  sl_step
  iapply (Entails.of_eq (wp_bind _ _ _ _ _ _).symm)
  sl_step
  iapply (Entails.of_eq (wp_bind _ _ _ _ _ _).symm)
  iapply (Entails.of_eq (wp_bind _ _ _ _ _ _).symm)
  iapply (Transfers.wp_waitBatchAllO countersEmb 𝒱₀ (V d (cV L) (jV L)) none (default : HIx 1) (rfl : (bV6).view.dmaCredit = 4096)
    (N := 32) (n := S128.size gathers_S200000_S128.axis' + S128.size gathers_S200000_S128.axis') (u := 0 + 128 * 32) (by decide) (by decide)) $$ [HB HO]
  · isplitl [HB]; · iexact HB
    isplitl [HO]; · iexact HO
    iapply (Transfers.MayWaits.elim (SemLoc.dma cc0_scratch7.sem)) $$ Hmw
  iintro ⟨HD, HsemG, HO⟩
  ihave HD := (gathers_done (F := F) d L q t n hn f5 f6) $$ HD
  icases HD with ⟨H5g, H6g, Ht', H1g, H2g⟩
  sl_exec
  ihave H5e := (filled (F := F) d L cc0_scratch5 _ _ (scaledFirst d L t n) ?a5 ?b5) $$ H5g; rotate_left 2
  ihave H6e := (filled (F := F) d L cc0_scratch6 _ _ (scaledSecond d L t n) ?a6 ?b6) $$ H6g; rotate_left 2
  case b5 => exact View.cover_of_tiled _ (fun _ => 16) rfl
  case b6 => exact View.cover_of_tiled _ (fun _ => 16) rfl
  case a5 =>
    simp only [List.forall_mem_cons]
    refine ⟨fun x => ?_, fun x => ?_, fun x => ?_, fun x => ?_, fun x => ?_, fun x => ?_, fun x => ?_, fun x => ?_, fun _ h => absurd h List.not_mem_nil⟩ <;>
      exact scaled_block (wordsRead d t (firstWords d L n)) _ _ rfl x
  case a6 =>
    simp only [List.forall_mem_cons]
    refine ⟨fun x => ?_, fun x => ?_, fun x => ?_, fun x => ?_, fun x => ?_, fun x => ?_, fun x => ?_, fun x => ?_, fun _ h => absurd h List.not_mem_nil⟩ <;>
      exact scaled_block (wordsRead d t (secondWords d L n)) _ _ rfl x
  -- The two scatters share the other semaphore in the same way.
  ihave H3s := (Entails.of_eq (pts_whole (F := F) d L cc0_scratch3 (firstCells L))) $$ H3e
  ihave H4s := (Entails.of_eq (pts_whole (F := F) d L cc0_scratch4 (secondCells L))) $$ H4e
  ihave H5s := (Entails.of_eq (pts_whole (F := F) d L cc0_scratch5 (scaledFirst d L t n))) $$ H5e
  ihave H6s := (Entails.of_eq (pts_whole (F := F) d L cc0_scratch6 (scaledSecond d L t n))) $$ H6e
  ihave Hos := (Entails.of_eq (cells_split (F := F) d L o)) $$ Ho
  icases Hos with ⟨Ho1, Ho2⟩
  have hS1 := StreamBatch.twoFamilies_left (firstScatter d L t n o) (secondScatter d L t n o)
  have hS2 := StreamBatch.twoFamilies_right (firstScatter d L t n o) (secondScatter d L t n o)
  imod (Transfers.batch_alloc' (countersEmb : UEmb Counters 𝕄) (V d (cV L) (jV L)) (default : HIx 1) 32
    (StreamBatch.twoFamilies (firstScatter d L t n o) (secondScatter d L t n o)) (sm := SemLoc.dma cc0_scratch8.sem)) $$ HsemW with HB
  iapply (StreamBatch.wp_scatterInBatch countersEmb 𝒱₀ (V d (cV L) (jV L)) none (default : HIx 1) 32 (firstCells_lt L) (fun _ => rfl)
    (firstRows_injective L) (by decide) (Nat.zero_le _) (fun t' => hS1 t' _)) $$ [H5s Ho1 H3s HB]
  · isplitl [H5s]; · iexact H5s
    isplitl [Ho1]; · iexact Ho1
    isplitl [H3s]; · iexact H3s
    iexact HB
  iintro HB
  iapply (StreamBatch.wp_scatterInBatch countersEmb 𝒱₀ (V d (cV L) (jV L)) none (default : HIx 1) 32 (secondCells_lt L) (fun _ => rfl)
    (secondRows_injective L) (by decide) (Nat.zero_le _) (fun t' => hS2 t' _)) $$ [H6s Ho2 H4s HB]
  · isplitl [H6s]; · iexact H6s
    isplitl [Ho2]; · iexact Ho2
    isplitl [H4s]; · iexact H4s
    iexact HB
  iintro HB
  iapply (Transfers.wp_waitBatchMulO countersEmb 𝒱₀ (V d (cV L) (jV L)) none (default : HIx 1) 128 (rfl : (bV5).view.dmaCredit = 128 * 32)
    (N := 32) (j := S128.size gathers_S8192_S128.axis' + S128.size gathers_S8192_S128.axis') (u := 0) (by decide)) $$ [HB HO]
  · isplitl [HB]; · iexact HB
    isplitl [HO]; · iexact HO
    iapply (Transfers.MayWaits.elim (SemLoc.dma cc0_scratch8.sem)) $$ Hmw
  iintro ⟨HB, HO⟩
  iapply (Entails.of_eq (wp_bind _ _ _ _ _ _).symm)
  sl_step
  iapply (Entails.of_eq (wp_bind _ _ _ _ _ _).symm)
  iapply (Transfers.wp_waitBatchAllO countersEmb 𝒱₀ (V d (cV L) (jV L)) none (default : HIx 1) (rfl : (bV6).view.dmaCredit = 4096)
    (N := 32) (n := S128.size gathers_S8192_S128.axis' + S128.size gathers_S8192_S128.axis') (u := 0 + 128 * 32) (by decide) (by decide)) $$ [HB HO]
  · isplitl [HB]; · iexact HB
    isplitl [HO]; · iexact HO
    iapply (Transfers.MayWaits.elim (SemLoc.dma cc0_scratch8.sem)) $$ Hmw
  iintro ⟨HD, HsemW, HO⟩
  ihave HD := scatters_done d L t n o hn $$ HD
  icases HD with ⟨Ho, H5, H6, H3, H4⟩
  sl_step
  sl_step
  isplitl [Hi' Ht' Ho]
  · isplitl [Hi']; · iapply (Entails.of_eq (pts_iK (F := F) d L _)); iexact Hi'
    isplitl [Ht']; · iexact Ht'
    iexact Ho
  isplitl [H0' H1g H2g H3 H4 H5 H6 Hbufs]
  · isplitr [Hbufs]
    · isplitl [H0']; · iexists _; iexact H0'
      isplitl [H1g]; · iexists _; iexact H1g
      isplitl [H2g]; · iexists _; iexact H2g
      isplitl [H3]; · iexists _; iexact H3
      isplitl [H4]; · iexists _; iexact H4
      isplitl [H5]; · iexists _; iexact H5
      iexists _; iexact H6
    iexact Hbufs
  isplitl [HsemS HsemG HsemW Hsems]
  · isplitl [HsemS]; · iexact HsemS
    isplitl [HsemG]; · iexact HsemG
    isplitl [HsemW]; · iexact HsemW
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Gps

end
-- ==== Proof.Launch.lean ====
/-
  The launch. The first reshape flattens the coordinates into the table; the call hands each of the 32 tiles its entries of the
  index list, a share of the table and its cells of the result, and gets them back with the cells at `scaledRows`; the second reshape
  shapes the cells into rows. `run_main` is the program's run: the arguments unchanged, the result at `rowsOf`, every
  semaphore at zero, from a launch memory whose entries are all below 100000.
-/
module

public import proofs.«01_k».proof.Proof.Tile

@[expose] public section

noncomputable section

namespace Cert.Proof.Gps

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v0_scv : Memref Cert.KernelIdeal.sig Kind.scVector Space.hbm Cert.KernelIdeal.S200000 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v1_scv : Memref Cert.KernelIdeal.sig Kind.scVector Space.hbm Cert.KernelIdeal.S8192 EltTy.f32)
local notation "bV0" => (Memref.whole Cert.KernelIdeal.cc0_scratch0 : Memref Cert.KernelIdeal.sig Kind.scVector Space.vmem Cert.KernelIdeal.S128 EltTy.i32)
local notation "bV1" => (Memref.whole Cert.KernelIdeal.cc0_scratch1 : Memref Cert.KernelIdeal.sig Kind.scVector Space.vmem Cert.KernelIdeal.S128 EltTy.i32)
local notation "bV2" => (Memref.whole Cert.KernelIdeal.cc0_scratch2 : Memref Cert.KernelIdeal.sig Kind.scVector Space.vmem Cert.KernelIdeal.S128 EltTy.i32)
local notation "bV3" => (Memref.whole Cert.KernelIdeal.cc0_scratch3 : Memref Cert.KernelIdeal.sig Kind.scVector Space.vmem Cert.KernelIdeal.S128 EltTy.i32)
local notation "bV4" => (Memref.whole Cert.KernelIdeal.cc0_scratch4 : Memref Cert.KernelIdeal.sig Kind.scVector Space.vmem Cert.KernelIdeal.S128 EltTy.i32)
local notation "bV5" => (Memref.whole Cert.KernelIdeal.cc0_scratch5 : Memref Cert.KernelIdeal.sig Kind.scVector Space.vmem Cert.KernelIdeal.S128 EltTy.f32)
local notation "bV6" => (Memref.whole Cert.KernelIdeal.cc0_scratch6 : Memref Cert.KernelIdeal.sig Kind.scVector Space.vmem Cert.KernelIdeal.S128 EltTy.f32)

variable (m : (ℓ : Loc nD τ sig) → Buf (Elt F) ℓ) (ρ : Dev nD → PrngReg)

/-! ## The table, the cells and the rows -/

/-- The coordinates as a flat table, as the first reshape leaves them. -/
def tableOf (d : Dev nD) : Buf (Elt F) (tLoc d) := shapeCast S200000 (m (cLoc d)) shapeCasts_S100000x2_S200000
/-- The cells of the result, as the call leaves them. -/
def cellsOf (d : Dev nD) : Buf (Elt F) (oLoc d) := scaledRows (tableOf m d) (m (iLoc d))
/-- The rows of the result, as the second reshape leaves them. -/
def rowsOf (d : Dev nD) : Buf (Elt F) (rLoc d) := shapeCast S4096x2 (cellsOf m d) shapeCasts_S8192_S4096x2

/-! ## Rearranging -/

/-- Of three things held, the second is brought to the front. -/
theorem take_second (A B C : sProp 𝕄) : iprop(A ∗ B ∗ C) = iprop((B ∗ A) ∗ C) := by
  refine BI.Entails.antisymm (show iprop(A ∗ B ∗ C) ⊢ iprop((B ∗ A) ∗ C) from ?_) (show iprop((B ∗ A) ∗ C) ⊢ iprop(A ∗ B ∗ C) from ?_)
  · iintro ⟨HA, HB, HC⟩
    isplitr [HC]
    · isplitl [HB] <;> iassumption
    iexact HC
  · iintro ⟨⟨HB, HA⟩, HC⟩
    isplitl [HA]; · iexact HA
    isplitl [HB] <;> iassumption

/-- Something held beside the second of three is brought out behind them. -/
theorem take_out (A B C R : sProp 𝕄) : iprop(A ∗ (B ∗ R) ∗ C) = iprop((A ∗ B ∗ C) ∗ R) := by
  refine BI.Entails.antisymm (show iprop(A ∗ (B ∗ R) ∗ C) ⊢ iprop((A ∗ B ∗ C) ∗ R) from ?_) (show iprop((A ∗ B ∗ C) ∗ R) ⊢ iprop(A ∗ (B ∗ R) ∗ C) from ?_)
  · iintro ⟨HA, ⟨HB, HR⟩, HC⟩
    isplitr [HR]
    · isplitl [HA]; · iexact HA
      isplitl [HB] <;> iassumption
    iexact HR
  · iintro ⟨⟨HA, HB, HC⟩, HR⟩
    isplitl [HA]; · iexact HA
    isplitr [HC]
    · isplitl [HB] <;> iassumption
    iexact HC

/-! ## Shares of the table: worker `k` takes the left half of what the workers before it left over -/

/-- What is left of the full share when `k` workers have taken theirs. -/
def leftOver : ℕ → PosShare TreeShare
  | 0 => fullShare
  | k + 1 => (leftOver k).right

/-- Taking one worker's share after another. -/
theorem table_dealt (d : Dev nD) (t : Buf (Elt F) (tLoc d)) (k : ℕ) :
    (tPts d fullShare t : sProp 𝕄) = iprop((bigSep (Finset.range k) fun w => tPts d (leftOver w).left t) ∗ tPts d (leftOver k) t) := by
  induction k with
  | zero => rw [Finset.range_zero, bigSep_empty]; exact (BI.equiv_iff.mp BI.emp_sep).symm
  | succ k ih =>
    have h := pointsTo_share (Ix := HIx 1) (Name := ℕ) (U := UU) (Lvl := ℕ) (ℓ := tLoc d) (I := Finset.univ) (f := t) (PosShare.mem_left_op_right (leftOver k))
    have e : (tPts d (leftOver k) t : sProp 𝕄) = iprop(tPts d (leftOver k).left t ∗ tPts d (leftOver (k + 1)) t) := BI.Entails.antisymm h.1 h.2
    rw [ih, Finset.range_add_one, SparseCore.bigSep_insert' Finset.notMem_range_self, e]
    exact take_second _ _ _

/-- Worker `w`'s share. -/
abbrev tShare (w : Fin 32) : PosShare TreeShare := (leftOver w.val).left

/-- The whole table is the 32 workers' shares and a remainder. -/
theorem table_shares (d : Dev nD) (t : Buf (Elt F) (tLoc d)) :
    (tPts d fullShare t : sProp 𝕄) = iprop((bigSep Finset.univ fun w : Fin 32 => tPts d (tShare w) t) ∗ tPts d (leftOver 32) t) := by
  rw [table_dealt d t 32, show Finset.range 32 = (Finset.univ : Finset (Fin 32)).image Fin.val from by
      ext k; simp only [Finset.mem_range, Finset.mem_image, Finset.mem_univ, true_and]
      exact ⟨fun h => ⟨⟨k, h⟩, rfl⟩, fun ⟨w, h⟩ => h ▸ w.isLt⟩,
    SparseCore.bigSep_image_of_injOn (Fin.val_injective.injOn)]

/-- The index list is its 32 pieces, -/
theorem iPts_pieces (d : Dev nD) (f : Buf (Elt F) (iLoc d)) :
    (iLoc d ↦{fullShare} f : sProp 𝕄) = bigSep Finset.univ fun w : Fin 32 => iPts d w f := by
  rw [← pointsTo_biUnion Finset.univ (ℓ := iLoc d) iSet iSets_disjoint, iSets_cover]; try rfl
/-- and so is the result. -/
theorem oPts_pieces (d : Dev nD) (f : Buf (Elt F) (oLoc d)) :
    (oLoc d ↦{fullShare} f : sProp 𝕄) = bigSep Finset.univ fun w : Fin 32 => oPts d w f := by
  rw [← pointsTo_biUnion Finset.univ (ℓ := oLoc d) oSet oSets_disjoint, oSets_cover]; try rfl

/-! ## What the handshakes carry -/

/-- The worker on subcore `i` of SparseCore `c`. -/
def worker (c : Fin 2) (i : Fin 16) : Fin 32 := ⟨2 * i.val + c.val, by omega⟩

/-- The two SparseCores' sixteen workers each are the 32 workers. -/
theorem workers (Φ : Fin 32 → sProp 𝕄) :
    (bigSep Finset.univ fun c : Fin 2 => bigSep Finset.univ fun i : Fin 16 => Φ (worker c i)) = bigSep Finset.univ Φ := by
  rw [bigSep_univ_equiv ((Equiv.prodComm (Fin 2) (Fin 16)).trans finProdFinEquiv) Φ, bigSep_univ_prod]
  refine bigSep_congr fun c _ => bigSep_congr fun i _ => congrArg Φ (Fin.ext ?_)
  show 2 * i.val + c.val = c.val + 2 * i.val
  omega

/-- What worker `w` holds, its cells of the result at `o`. -/
abbrev piece (d : Dev nD) (w : Fin 32) (o : Buf (Elt F) (oLoc d)) : sProp 𝕄 :=
  iprop(iPts d w (m (iLoc d)) ∗ tPts d (tShare w) (tableOf m d) ∗ oPts d w o)
/-- What the workers of SparseCore `c` hold. -/
abbrev pieces (d : Dev nD) (c : Fin 2) (o : Buf (Elt F) (oLoc d)) : sProp 𝕄 :=
  bigSep Finset.univ fun i : Fin 16 => piece m d (worker c i) o

/-- Each SparseCore takes its workers' pieces and returns them with the cells written; so does each tile with its own. -/
def P : (K (F := F)).Pay (nD := nD) (Val := Elt F) (Name := ℕ) (U := UU) where
  st := fun q d c => match q with | 0 => pieces m d c (m (oLoc d))
  dn := fun q d c => match q with | 0 => pieces m d c (cellsOf m d)
  go := fun q d c i => match q with | 0 => piece m d (worker c i) (m (oLoc d))
  td := fun q d c i => match q with | 0 => piece m d (worker c i) (cellsOf m d)
  x := fun _ _ => iprop(emp)

/-- What the handshakes carry may be kept in an invariant. -/
instance P_storable : (P (F := F) m).IsStorable where
  st q d c := match q with | 0 => (inferInstance : BI.Storable (upEmb : UEmb _ 𝕄) (pieces m d c (m (oLoc d))))
  dn q d c := match q with | 0 => (inferInstance : BI.Storable (upEmb : UEmb _ 𝕄) (pieces m d c (cellsOf m d)))
  go q d c i := match q with | 0 => (inferInstance : BI.Storable (upEmb : UEmb _ 𝕄) (piece m d (worker c i) (m (oLoc d))))
  td q d c i := match q with | 0 => (inferInstance : BI.Storable (upEmb : UEmb _ 𝕄) (piece m d (worker c i) (cellsOf m d)))

/-- Every entry of the index list names a row of the coordinates. -/
def EntriesOK : Prop := ∀ (d : Dev nD) (j : S4096.Idx), (m (iLoc d) j).toNat < 100000

/-! ## The tile's obligation -/

/-- The coordinates of the tile on subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body of a tile's task is the generated one at the tile's coordinates. -/
theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
            bV0 (Memref.isWhole_whole _) bV1 (Memref.isWhole_whole _) bV2 (Memref.isWhole_whole _) bV3 (Memref.isWhole_whole _)
            bV4 (Memref.isWhole_whole _) bV5 (Memref.isWhole_whole _) bV6 (Memref.isWhole_whole _) cc0_scratch7 cc0_scratch8 cc0_scoped0) ⟨⟩ c s := rfl

/-- Waits allowed for no reason of the call's are allowed. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile turns its piece of the call into its piece of the outcome. -/
theorem tileObl (hF : (K (F := F)).Facts) (hn : EntriesOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tShare (worker c i)) (tableOf m d) (m (iLoc d)) (m (oLoc d)) hF (hn d) O W hO).trans
    (wp_mono frame _ _ fun _ => obl_post)

/-- A SparseCore's pieces are its tiles' pieces. -/
theorem vecSplit : (K (F := F)).VecSplit' (P m) 0 := by
  intro d c
  show (pieces m d c (m (oLoc d)) : sProp 𝕄) ⊢ |={Set.univ}=> iprop(pieces m d c (m (oLoc d)) ∗ (pieces m d c (cellsOf m d) -∗ pieces m d c (cellsOf m d)))
  iintro H; imodintro
  isplitl [H]; · iexact H
  iintro H; iexact H

/-! ## The launch's ghost state -/

/-- The launch element: the handshakes' rounds, and the counters at rest. -/
def u₀ : UU := (initOf (K (F := F)).hsCells (K (F := F)).hsToks, 1)

/-- Holding nothing many times is holding nothing. -/
theorem bigSep_emp' {I : Type} (s : Finset I) : (bigSep s fun _ => iprop(emp)) = (iprop(emp) : sProp 𝕄) := bigSep_emp_const s

/-- The launch element gives the handshakes their rounds and the tiles nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

abbrev aPts (d : Dev nD) : sProp 𝕄 := aLoc d ↦{fullShare} m (aLoc d)
abbrev cPts (d : Dev nD) : sProp 𝕄 := cLoc d ↦{fullShare} m (cLoc d)
abbrev nPts (d : Dev nD) : sProp 𝕄 := iLoc d ↦{fullShare} m (iLoc d)

/-- The arrays of the host program are three arguments and three values. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (cLoc d ↦{fullShare} W main_arg1) ∗ (iLoc d ↦{fullShare} W main_arg2)
          ∗ (tLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The 32 pieces together, and the remainder of the table. -/
theorem all_pieces (d : Dev nD) (o : Buf (Elt F) (oLoc d)) :
    (iprop(nPts m d ∗ tPts d fullShare (tableOf m d) ∗ oLoc d ↦{fullShare} o) : sProp 𝕄)
      = iprop((bigSep Finset.univ fun c : Fin 2 => pieces m d c o) ∗ tPts d (leftOver 32) (tableOf m d)) := by
  rw [workers fun w => piece m d w o, bigSep_sep', bigSep_sep', table_shares, show nPts m d = _ from iPts_pieces d (m (iLoc d)), oPts_pieces]
  exact take_out _ _ _ _

/-- What the call starts with: every worker's pieces, the result as it was. -/
theorem st0_eq (d : Dev nD) : (bigSep Finset.univ fun c : Fin ((K (F := F)).nCore 0) => (P m).st 0 d c) = bigSep Finset.univ fun c : Fin 2 => pieces m d c (m (oLoc d)) := rfl
/-- What the call ends with: every worker's pieces, the result filled. -/
theorem dn0_eq (d : Dev nD) : (bigSep Finset.univ fun c : Fin ((K (F := F)).nCore 0) => (P m).dn 0 d c) = bigSep Finset.univ fun c : Fin 2 => pieces m d c (cellsOf m d) := rfl

abbrev c' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two reshapes. -/
abbrev opFlat : HloOp τ sig (Elt F) := StableHlo.reshape main_arg1 main_v0 (rfl : (.f32 : EltTy) = .f32) shapeCasts_S100000x2_S200000
abbrev opRows : HloOp τ sig (Elt F) := StableHlo.reshape main_v1 main_v2 (rfl : (.f32 : EltTy) = .f32) shapeCasts_S8192_S4096x2

/-- What the first reshape holds: its operand and its result. -/
theorem held_flat (d : Dev nD) (W : Valuation τ sig (Elt F)) :
    (held (T d) {c', t'} W : sProp 𝕄) = iprop((cLoc d ↦{fullShare} W c') ∗ tLoc d ↦{fullShare} W t') := by
  unfold held
  rw [SparseCore.bigSep_insert' (by decide), bigSep_singleton]
/-- What the second reshape holds: its operand and its result. -/
theorem held_rows (d : Dev nD) (W : Valuation τ sig (Elt F)) :
    (held (T d) {o', r'} W : sProp 𝕄) = iprop((oLoc d ↦{fullShare} W o') ∗ rLoc d ↦{fullShare} W r') := by
  unfold held
  rw [SparseCore.bigSep_insert' (by decide), bigSep_singleton]

/-- The launch memory as the operations see it, and the same with the cells written. -/
def V0 (d : Dev nD) : Valuation τ sig (Elt F) := fun b => m (d, b)
/-- The contents after the call: the result cells filled. -/
def V1 (d : Dev nD) : Valuation τ sig (Elt F) := Function.update (V0 m d) o' (cellsOf m d)

/-- After the first reshape the flat table holds the coordinates. -/
theorem flat_after (d : Dev nD) :
    (held (T d) {c', t'} ((opFlat (F := F)).result (V0 m d)) : sProp 𝕄) = iprop(cPts m d ∗ tPts d fullShare (tableOf m d)) := by
  rw [held_flat, (opFlat (F := F)).result_of_not_mem _ (show c' ∉ ({t'} : Finset (DevRef τ sig)) by decide),
    show (opFlat (F := F)).result (V0 m d) t' = tableOf m d from StableHlo.reshape_result _ _ _ _ _ _ _]
  rfl
/-- Before the second reshape the result cells are the filled ones. -/
theorem rows_before (d : Dev nD) :
    (held (T d) {o', r'} (V1 m d) : sProp 𝕄) = iprop((oLoc d ↦{fullShare} cellsOf m d) ∗ rLoc d ↦{fullShare} m (rLoc d)) := by
  rw [held_rows, show V1 m d o' = cellsOf m d from Function.update_self _ _ _,
    show V1 m d r' = m (rLoc d) from Function.update_of_ne (show r' ≠ o' by decide) _ _]
/-- After the second reshape the rows hold the result. -/
theorem rows_after (d : Dev nD) :
    (held (T d) {o', r'} ((opRows (F := F)).result (V1 m d)) : sProp 𝕄)
      = iprop((oLoc d ↦{fullShare} cellsOf m d) ∗ rLoc d ↦{fullShare} rowsOf m d) := by
  rw [held_rows, (opRows (F := F)).result_of_not_mem _ (show o' ∉ ({r'} : Finset (DevRef τ sig)) by decide),
    show V1 m d o' = cellsOf m d from Function.update_self _ _ _,
    show (opRows (F := F)).result (V1 m d) r' = rowsOf m d from (StableHlo.reshape_result _ _ _ _ _ _ _).trans (by
      rw [show V1 m d o' = cellsOf m d from Function.update_self _ _ _]; rfl)]

/-- What the host program leaves the claims: the arguments as they were and the rows. -/
abbrev FIN (d : Dev nD) : sProp 𝕄 := iprop(aPts m d ∗ cPts m d ∗ nPts m d ∗ rLoc d ↦{fullShare} rowsOf m d)

/-- The host program: the reshape, the call and the other reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hc, Hi, Ht, Ho, Hr⟩, Hts, -⟩, -⟩
  iapply (wp_hlo_within 𝒱 (SparseCore.T d) none Set.univ (op := opFlat) (S := {c', t'})
    (show ({c', t'} : Finset (DevRef τ sig)) ⊆ {c', t'} by decide) (V := V0 m d)) $$ [Hb Hc Ht]
  · isplitl [Hb]; · iexact Hb
    rw [held_flat]
    isplitl [Hc]; · iexact Hc
    iexact Ht
  iintro ⟨Hb, Hheld⟩
  ihave Hh := (Entails.of_eq (flat_after (F := F) m d)) $$ Hheld
  icases Hh with ⟨Hc, Ht⟩
  rw [wp_ret]; imodintro
  ihave Hp := (Entails.of_eq (all_pieces (F := F) m d (m (oLoc d)))) $$ [Hi Ht Ho]
  · isplitl [Hi]; · iexact Hi
    isplitl [Ht]; · iexact Ht
    iexact Ho
  icases Hp with ⟨Hp, Hrest⟩
  iapply ((K (F := F)).wp_run (D (F := F)) 𝒱 (EH := EH) (P := P m) κ d 0) $$ [Hst Hp Hrest Ha Hc Hr Hb Hts]
  isplitr; · iexact Hctx
  isplitl [Hst]; · iexact Hst
  isplitl [Hp]
  · rw [st0_eq]; iexact Hp
  iintro ⟨Hst, Hdn⟩
  ihave Hdn' := (Entails.of_eq (dn0_eq m d)) $$ Hdn
  ihave Hp := (Entails.of_eq (all_pieces (F := F) m d (cellsOf m d)).symm) $$ [Hdn' Hrest]
  · isplitl [Hdn']; · iexact Hdn'
    iexact Hrest
  icases Hp with ⟨Hi, -, Ho⟩
  iapply (wp_hlo_within 𝒱 (SparseCore.T d) none Set.univ (op := opRows) (S := {o', r'})
    (show ({o', r'} : Finset (DevRef τ sig)) ⊆ {o', r'} by decide) (V := V1 m d)) $$ [Hb Ho Hr]
  · isplitl [Hb]; · iexact Hb
    rw [rows_before]
    isplitl [Ho]; · iexact Ho
    iexact Hr
  iintro ⟨Hb, Hheld⟩
  ihave Hh := (Entails.of_eq (rows_after (F := F) m d)) $$ Hheld
  icases Hh with ⟨-, Hr⟩
  rw [wp_ret]; imodintro; imodintro
  isplitl [Hst]; · iexact Hst
  isplitr [Hb Hts]
  · isplitl [Ha]; · iexact Ha
    isplitl [Hc]; · iexact Hc
    isplitl [Hi]; · iexact Hi
    iexact Hr
  isplitl [Hb] <;> iassumption

/-- What the claims read of the final state. -/
def fq (d : Dev nD) (s' : Phys nD τ sig (Elt F)) : Prop :=
  s'.mem.mem (aLoc d) = m (aLoc d) ∧ s'.mem.mem (cLoc d) = m (cLoc d) ∧ s'.mem.mem (iLoc d) = m (iLoc d) ∧ s'.mem.mem (rLoc d) = rowsOf m d

/-- An array held whole is in the final state what it is held at. -/
theorem read_final (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- What @main holds at its end fixes the memory read in the final state. -/
theorem hfin (d : Dev nD) (s' : Phys nD τ sig (Elt F)) : iprop(FIN m d ∗ SI s') ⊢ (⌜fq m d s'⌝ : sProp 𝕄) := by
  iintro ⟨⟨Ha, Hc, Hi, Hr⟩, HSI⟩
  ihave H := (read_final s' (aLoc d) (m (aLoc d))) $$ [HSI Ha]
  · isplitl [Ha] <;> iassumption
  icases H with ⟨%ha, HSI⟩
  ihave H := (read_final s' (cLoc d) (m (cLoc d))) $$ [HSI Hc]
  · isplitl [Hc] <;> iassumption
  icases H with ⟨%hc, HSI⟩
  ihave H := (read_final s' (iLoc d) (m (iLoc d))) $$ [HSI Hi]
  · isplitl [Hi] <;> iassumption
  icases H with ⟨%hi, HSI⟩
  ihave H := (read_final s' (rLoc d) (rowsOf m d)) $$ [HSI Hr]
  · isplitl [Hr] <;> iassumption
  icases H with ⟨%hr, -⟩
  ipureintro; exact ⟨ha, hc, hi, hr⟩

/-! ## The run -/

/-- The outcome: on each device the arguments as they were and the result at `rowsOf`; every semaphore at zero. -/
def QC : PUnit × MemSt nD τ sig (Elt F) → Prop := fun r =>
  (∀ c : Dev nD, r.2.mem (aLoc c) = m (aLoc c) ∧ r.2.mem (cLoc c) = m (cLoc c) ∧ r.2.mem (iLoc c) = m (iLoc c) ∧ r.2.mem (rLoc c) = rowsOf m c)
    ∧ r.2.sem = fun _ => 0

/-- The program's run, from a memory whose entries name rows. -/
theorem run_main [∀ e, Nonempty (Elt F e)] (hn : EntriesOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hn)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gps

end
-- ==== Proof.Range.lean ====
/-
  What the precondition says of the index list: a conjunction over its 4096 entries, each at least 0 and below 100000 as a
  signed number, so that every entry read as a natural number is below 100000.
-/
module

public import proofs.«01_k».proof.Proof.Launch
public import proofs.«01_k».proof.Proof.Gen.Pre_in_range
public import Idealize.ShloMosaic.PureOps.Reduce

@[expose] public section

noncomputable section

namespace Cert.Proof.Gps

open Idealize.ShloMosaic

/-- Bits joined by "and", one after the other from a first bit, give 1 exactly when the first and all of them are 1. -/
theorem fold_and_iff {I : Type} (f : I → BitVec 1) (l : List I) (a : BitVec 1) :
    l.foldl (fun r i => IntOp.andi r (f i)) a = 1#1 ↔ a = 1#1 ∧ ∀ i ∈ l, f i = 1#1 := by
  have both : ∀ p q : BitVec 1, IntOp.andi p q = 1#1 ↔ p = 1#1 ∧ q = 1#1 := by unfold IntOp.andi; decide
  induction l generalizing a with
  | nil => simp
  | cons i l ih =>
    refine (ih _).trans ?_
    rw [both, List.forall_mem_cons]
    exact and_assoc

/-- A reduction by "and" that starts at 1 is 1 at `j` exactly when every bit it joins there is 1. -/
theorem reduce_and_iff {s t u : Shape} {axes : List (Fin s.rank)} (x : s.Idx → BitVec 1) (h : s.ReducesTo axes t) (hu : 0 < u.numel) (j : t.Idx) :
    Host.reduce IntOp.andi x (constantI u 1 1#1) h hu j = 1#1 ↔ ∀ i, h.drop i = j → x i = 1#1 := by
  rw [Host.reduce_eq_foldl, fold_and_iff]
  constructor
  · intro e i hi
    exact e.2 i (List.mem_filter.2 ⟨List.mem_map.2 ⟨s.rowMajor i, List.mem_finRange _, s.rowMajor.symm_apply_apply i⟩, decide_eq_true hi⟩)
  · intro e
    exact ⟨rfl, fun i hi => e i (of_decide_eq_true (List.mem_filter.1 hi).2)⟩

/-- A word at least 0 and below 100000 as a signed number is below 100000 as a natural number. -/
theorem entry_lt (v : BitVec 32) (e : IntOp.andi (IntOp.cmpi .sge v 0#32) (IntOp.cmpi .slt v 100000#32) = 1#1) : v.toNat < 100000 := by
  have bits : ∀ p q : Bool, IntOp.andi (BitVec.ofBool p) (BitVec.ofBool q) = 1#1 → p = true ∧ q = true := by unfold IntOp.andi; decide
  obtain ⟨h₁, h₂⟩ := bits _ _ e
  simp only [BitVec.sle_eq_decide, BitVec.slt_eq_decide, decide_eq_true_eq, BitVec.toInt_eq_toNat_cond, BitVec.toNat_ofNat,
    Nat.reducePow, Nat.reduceMod] at h₁ h₂
  omega

/-- Where the precondition holds of the three arguments, every entry of the index list is below 100000. -/
theorem entries_of_pre {F : FTy → Type} [FloatOps F] (img : FVec F Cert.Pre_in_range.S4096x768 .f32) (T : FVec F Cert.Pre_in_range.S100000x2 .f32)
    (n : IVec Cert.Pre_in_range.S4096 32) (h : Cert.Pre_in_range.fn img T n = fun _ => 1#1) (j : Cert.Pre_in_range.S4096.Idx) : (n j).toNat < 100000 := by
  have h' : Host.reduce IntOp.andi (fun i => IntOp.andi (IntOp.cmpi .sge (n i) 0#32) (IntOp.cmpi .slt (n i) 100000#32))
      (constantI Cert.Pre_in_range.S_ 1 1#1) Cert.Pre_in_range.Gen.reducesTo_S4096_S_d0 Cert.Pre_in_range.Gen.h_S_ (fun a => a.elim0) = 1#1 :=
    congrFun h _
  exact entry_lt _ ((reduce_and_iff _ _ _ _).1 h' j (funext fun a => a.elim0))

end Cert.Proof.Gps

end
-- ==== Proof.Reference.lean ====
/-
  The reference's result, read entry by entry: with every entry of the index list below 100000, no index wraps around and no
  row is masked, so row `i` is row `n[i]` of the table, clamped to [-1, 1], times 90 in the first column and 180 in the second.
-/
module

public import proofs.«01_k».proof.Proof.Range
public import proofs.«01_k».proof.Proof.Gen.ReferenceIdeal.Run
public import Idealize.ShloMosaic.PureOps.Ideal
public import Idealize.ShloMosaic.Lib.Routing.Ops

@[expose] public section

noncomputable section

namespace Cert.Proof.Gps.Ref

open Cert.ReferenceIdeal Cert.ReferenceIdeal.Gen
open Idealize.ShloMosaic Idealize.ShloMosaic.ValueIdx
open Idealize.ShloMosaic.StableHlo (Predicate.sge_iff_toNat Predicate.sle_iff_toNat Predicate.slt_iff_toNat)

variable (T : FVec Ideal S100000x2 .f32) (n : IVec S4096 32)

/-- The index list with 100000 added to its negative entries, as a column. -/
def column : IVec S4096x1 32 :=
  broadcastInDim S4096x1 ![0] bcast_S4096_S4096x1_0 (select (cmpi .slt n (broadcastInDim S4096 ![] bcast_S_S4096 (constantI S_ 32 0#32)))
    (addi n (broadcastInDim S4096 ![] bcast_S_S4096 (constantI S_ 32 100000#32))) n)

/-- Which rows' indices lie in the table. -/
def inTable : IVec S4096 1 :=
  Host.reduce IntOp.andi (andi (cmpi .sge (column n) (broadcastInDim S4096x1 ![] bcast_S_S4096x1 (constantI S_ 32 0#32)))
    (cmpi .sle (column n) (broadcastInDim S4096x1 ![0, 1] bcast_S1x1_S4096x1_0_1 (broadcastInDim S1x1 ![1] bcast_S1_S1x1_1 (constantI S1 32 99999#32)))))
    (constantI S_ 1 1#1) reducesTo_S4096x1_S4096_d1 h_S_

/-- The table's rows at the indices, a row outside the table masked. -/
def taken : FVec Ideal S4096x2 .f32 :=
  select (broadcastInDim S4096x2 ![0] bcast_S4096_S4096x2_0 (inTable n)) (Host.gather gather_S100000x2_S4096x1_S4096x2_1_0_n_n_0_1_12 T (column n))
    (broadcastInDim S4096x2 ![] bcast_S_S4096x2 (constant S_ .f32 0x7FC00000#32))

/-- The reference's result: the rows, clamped and scaled. -/
def result : FVec Ideal S4096x2 .f32 :=
  mulf (minimumf (broadcastInDim S4096x2 ![] bcast_S_S4096x2 (id (constant S_ .f32 0x3F800000#32)))
      (maximumf (broadcastInDim S4096x2 ![] bcast_S_S4096x2 (id (constant S_ .f32 0xBF800000#32))) (taken T n)))
    (broadcastInDim S4096x2 ![0, 1] bcast_S1x2_S4096x2_0_1 (broadcastInDim S1x2 ![1] bcast_S2_S1x2_1 (fun i => FloatOps.ofBits .f32 (lit0 (S2.rowMajor i)))))

variable (hn : ∀ j, (n j).toNat < 100000)
include hn

/-- No entry is negative, so the column holds the list's own entries. -/
theorem column_apply (p : Fin 4096) (q : Fin 1) : column n (ix2 p q) = n (ix1 p) := by
  have e : column n (ix2 p q) = Scalar.select (IntOp.cmpi .slt (n (ix1 p)) 0#32) (IntOp.addi (n (ix1 p)) 100000#32) (n (ix1 p)) := by
    unfold column
    exact congrArg (fun j => Scalar.select (IntOp.cmpi .slt (n j) 0#32) (IntOp.addi (n j) 100000#32) (n j))
      (funext fun a => match a with | ⟨0, _⟩ => rfl)
  have h := hn (ix1 p)
  have hz : IntOp.cmpi .slt (n (ix1 p)) 0#32 ≠ 1#1 := fun h0 =>
    Nat.not_lt_zero _ ((Predicate.slt_iff_toNat (by omega) (by decide)).1 h0)
  rw [e, eq_zero_of_ne_one hz]
  rfl

/-- Every row's index lies in the table. -/
theorem inTable_apply (p : S4096.Idx) : inTable n p = 1#1 := by
  unfold inTable
  rw [reduce_and_iff]
  intro i _
  obtain ⟨a, b, rfl⟩ : ∃ a b, i = ix2 a b := ⟨_, _, eq_ix2 i⟩
  have h := hn (ix1 a)
  show IntOp.andi (IntOp.cmpi .sge (column n (ix2 a b)) 0#32) (IntOp.cmpi .sle (column n (ix2 a b)) 99999#32) = 1#1
  rw [column_apply n hn, (Predicate.sge_iff_toNat (by omega) (by decide)).2 (Nat.zero_le _),
    (Predicate.sle_iff_toNat (by omega) (by decide)).2 (show (n (ix1 a)).toNat ≤ 99999 by omega)]
  rfl

/-- Row `p` of the rows taken is row `n[p]` of the table. -/
theorem taken_apply (p : Fin 4096) (q : Fin 2) : taken T n (ix2 p q) = T (ix2 ⟨(n (ix1 p)).toNat, hn _⟩ q) := by
  have e : taken T n (ix2 p q) = Scalar.select (inTable n (ix1 p)) (Host.gather gather_S100000x2_S4096x1_S4096x2_1_0_n_n_0_1_12 T (column n) (ix2 p q))
      (Scalar.ofBits .f32 0x7FC00000#32) := by
    unfold taken
    exact congrArg (fun j => Scalar.select (inTable n j) (Host.gather gather_S100000x2_S4096x1_S4096x2_1_0_n_n_0_1_12 T (column n) (ix2 p q))
      (Scalar.ofBits .f32 0x7FC00000#32)) (funext fun a => match a with | ⟨0, _⟩ => rfl)
  rw [e, inTable_apply n hn]
  exact Routing.gather_row _ rfl rfl rfl rfl rfl T (column n) p q ⟨(n (ix1 p)).toNat, hn _⟩
    ((column_apply n hn p 0).trans (by simp)) (by decide)

omit hn in
/-- A word of the flat table is the table's entry with the word's row and column. -/
theorem table_apply (h : S100000x2.ShapeCasts Cert.KernelIdeal.S200000) (a : Fin 100000) (q : Fin 2) (k : ℕ) (hk : k = 2 * a.val + q.val) :
    tableAt (shapeCast Cert.KernelIdeal.S200000 T h) k = T (ix2 a q) := by
  have hlt : k < 200000 := by omega
  refine (tableAt_eq _ (ix1 ⟨k, hlt⟩) k rfl).symm.trans (shapeCast_apply T h _ (ix2 a q) ?_)
  rw [Shape.rowMajor_val_two, Shape.rowMajor_val_one]
  show a.val * 2 + q.val = k
  omega

omit hn in
/-- The scaled cell of row `p` and column `q` is the clamped table word of entry `p` and column `q`, times the column's factor. -/
theorem cell_apply (t : FVec Ideal Cert.KernelIdeal.S200000 .f32) (p : Fin 4096) (q : Fin 2) (hlt : 2 * p.val + q.val < 8192) :
    scaledRows t n (ix1 ⟨2 * p.val + q.val, hlt⟩)
      = FloatOps.mulf (clampUnit (tableAt t (2 * entryAt n p.val + q.val))) (FloatOps.ofBits (F := Ideal) .f32 (lit0 q)) := by
  have hd : (2 * p.val + q.val) / 2 = p.val := by omega
  have hq : q = 0 ∨ q = 1 := by omega
  unfold scaledRows
  rcases hq with rfl | rfl
  · refine (if_pos (show (2 * p.val + 0) % 2 = 0 by omega)).trans ?_
    exact congrArg (fun k => FloatOps.mulf (clampUnit (tableAt t (2 * entryAt n k))) (Scalar.ofBits .f32 0x42B40000#32)) hd
  · refine (if_neg (show ¬ (2 * p.val + 1) % 2 = 0 by omega)).trans ?_
    exact congrArg (fun k => FloatOps.mulf (clampUnit (tableAt t (2 * entryAt n k + 1))) (Scalar.ofBits .f32 0x43340000#32)) hd

/-- The rows of the scaled cells are the reference's result. -/
theorem result_eq (h₁ : S100000x2.ShapeCasts Cert.KernelIdeal.S200000) (h₂ : Cert.KernelIdeal.S8192.ShapeCasts S4096x2) :
    result T n = shapeCast S4096x2 (scaledRows (shapeCast Cert.KernelIdeal.S200000 T h₁) n) h₂ := by
  funext i
  obtain ⟨p, q, rfl⟩ : ∃ p q, i = ix2 p q := ⟨_, _, eq_ix2 i⟩
  have hlt : 2 * p.val + q.val < 8192 := by omega
  have hr : entryAt n p.val = (n (ix1 p)).toNat := (entryAt_eq n (ix1 p) p.val rfl).symm
  have left : result T n (ix2 p q) = FloatOps.mulf (FloatOps.minimumf (Scalar.ofBits .f32 0x3F800000#32)
      (FloatOps.maximumf (Scalar.ofBits .f32 0xBF800000#32) (taken T n (ix2 p q)))) (FloatOps.ofBits (F := Ideal) .f32 (lit0 q)) := by
    unfold result
    refine congrArg (fun j => FloatOps.mulf (FloatOps.minimumf (Scalar.ofBits .f32 0x3F800000#32)
      (FloatOps.maximumf (Scalar.ofBits .f32 0xBF800000#32) (taken T n (ix2 p q)))) (FloatOps.ofBits (F := Ideal) .f32 (lit0 j))) (Fin.ext ?_)
    exact Shape.rowMajor_val_one _
  have clamp : FloatOps.minimumf (Scalar.ofBits .f32 0x3F800000#32) (FloatOps.maximumf (Scalar.ofBits .f32 0xBF800000#32) (taken T n (ix2 p q)))
      = clampUnit (T (ix2 ⟨(n (ix1 p)).toNat, hn _⟩ q)) := by
    rw [taken_apply T n hn]
    exact (min_comm _ _).trans (congrArg (fun v => min v _) (max_comm _ _))
  rw [left, clamp]
  refine Eq.trans ?_ (shapeCast_apply _ h₂ (ix2 p q) (ix1 ⟨2 * p.val + q.val, hlt⟩) ?_).symm
  · rw [cell_apply n _ p q hlt, hr, table_apply T h₁ ⟨(n (ix1 p)).toNat, hn _⟩ q _ rfl]
  · rw [Shape.rowMajor_val_two, Shape.rowMajor_val_one]
    show 2 * p.val + q.val = p.val * 2 + q.val
    omega

end Cert.Proof.Gps.Ref

end
-- ==== Proof.lean ====
/-
  The claims of this certificate. The kernel's run is proved once for any float values (Proof/Launch.lean `run_main`) and read here at
  the machine's floats and at the extended reals; the reference's run is read entry by entry in Proof/Reference.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Range
public import proofs.«01_k».proof.Proof.Reference
public import Idealize.ShloMosaic.Adequacy
public import Idealize.ShloMosaic.Init

@[expose] public section

noncomputable section

namespace Cert.Proof

open Idealize.ShloMosaic Idealize.SL.Sem

/-- For any float values, every entry of the index list in range, the kernel runs to the end with its arguments unchanged and
    every semaphore at zero. -/
theorem frame_of_entries {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) (hn : Gps.EntriesOK m) :
    θ_run (Cert.KernelIdeal.defs (F := F)) (Cert.KernelIdeal.threads (F := F)) ⟨m, fun _ => 0, ρ⟩ fun r =>
      (∀ c : Dev Cert.KernelIdeal.nD, r.2.mem (Gps.aLoc c) = m (Gps.aLoc c) ∧ r.2.mem (Gps.cLoc c) = m (Gps.cLoc c) ∧ r.2.mem (Gps.iLoc c) = m (Gps.iLoc c))
      ∧ r.2.sem = fun _ => 0 :=
  (θ_run Cert.KernelIdeal.defs _ _).mono (fun _ h => ⟨fun c => ⟨(h.1 c).1, (h.1 c).2.1, (h.1 c).2.2.1⟩, h.2⟩) (Gps.run_main m ρ hn)

/-- The kernel at the machine's floats: its text and the other's are one program. -/
theorem kernel_frame : Cert.quiescent_Kernel := fun m ρ hpre =>
  frame_of_entries (F := Bits) m ρ fun c => Gps.entries_of_pre _ _ _ (hpre c)

/-- The kernel at the extended reals. -/
theorem kernelIdeal_frame : Cert.quiescent_KernelIdeal := fun m ρ hpre =>
  frame_of_entries (F := Ideal) m ρ fun c => Gps.entries_of_pre _ _ _ (hpre c)

/-- The reference runs to the end, its arguments unchanged; it has no semaphore. -/
theorem reference_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- At the extended reals the kernel and the reference leave the same rows. -/
theorem kernel_reference : Cert.algebraic_KernelIdeal_ReferenceIdeal := by
  intro m g m' g' hpre hargs
  have hn : Gps.EntriesOK (F := Ideal) m := fun c => Gps.entries_of_pre _ _ _ (hpre c)
  refine ⟨fun c => Gps.rowsOf m c, ?_, ?_⟩
  · exact (θ_run Cert.KernelIdeal.defs _ _).mono (fun _ h c => ⟨(h.1 c).2.2.2, (h.1 c).1, (h.1 c).2.1, (h.1 c).2.2.1⟩) (Gps.run_main m g hn)
  · refine (θ_run Cert.ReferenceIdeal.defs _ _).mono (fun r h c => ⟨(h c).1.trans ?_, (h c).2⟩) (Cert.ReferenceIdeal.Value.run (F := Ideal) m' g')
    rw [(hargs c).2.1, (hargs c).2.2]
    exact Gps.Ref.result_eq _ _ (hn c) _ _

theorem claim : Cert.Claim :=
  ⟨Cert.Kernel.Gen.facts, Cert.KernelIdeal.Gen.facts, Cert.ReferenceIdeal.Gen.facts, Cert.Pre_in_range.Gen.facts,
    kernel_frame, kernelIdeal_frame, reference_frame, fun m ρ _ => reference_frame m ρ trivial, trivial, kernel_reference⟩

end Cert.Proof

end
